-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_alpha_zero_emb_below_inf [hPre_alpha_zero_emb_below_inf : Cert.Pre_alpha_zero_emb_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_alpha_zero_emb_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_alpha_zero_emb_below_inf [hPre_alpha_zero_emb_below_inf : Cert.Pre_alpha_zero_emb_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_alpha_zero_emb_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_alpha_zero_emb_below_inf [hKernelIdeal : Cert.KernelIdeal.Facts] [hPre_alpha_zero_emb_below_inf : Cert.Pre_alpha_zero_emb_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_alpha_zero_emb_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_alpha_zero_emb_below_inf [hReferenceIdeal : Cert.ReferenceIdeal.Facts] [hPre_alpha_zero_emb_below_inf : Cert.Pre_alpha_zero_emb_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_alpha_zero_emb_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_alpha_zero_emb_below_inf [hKernelIdeal : Cert.KernelIdeal.Facts] [hReferenceIdeal : Cert.ReferenceIdeal.Facts] [hPre_alpha_zero_emb_below_inf : Cert.Pre_alpha_zero_emb_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_alpha_zero_emb_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_alpha_zero_emb_below_inf : Cert.Pre_alpha_zero_emb_below_inf.Facts),
    quiescent_Kernel (hKernel := hKernel)
    ∧ quiescent_KernelIdeal (hKernelIdeal := hKernelIdeal)
    ∧ quiescent_KernelIdeal_pre_alpha_zero_emb_below_inf (hKernelIdeal := hKernelIdeal) (hPre_alpha_zero_emb_below_inf := hPre_alpha_zero_emb_below_inf)
    ∧ quiescent_ReferenceIdeal (hReferenceIdeal := hReferenceIdeal)
    ∧ quiescent_ReferenceIdeal_pre_alpha_zero_emb_below_inf (hReferenceIdeal := hReferenceIdeal) (hPre_alpha_zero_emb_below_inf := hPre_alpha_zero_emb_below_inf)
    ∧ preserves_Kernel_KernelIdeal
    ∧ algebraic_KernelIdeal_ReferenceIdeal_pre_alpha_zero_emb_below_inf (hKernelIdeal := hKernelIdeal) (hReferenceIdeal := hReferenceIdeal) (hPre_alpha_zero_emb_below_inf := hPre_alpha_zero_emb_below_inf)
-- ==== Pre_alpha_zero_emb_below_inf.lean ====
abbrev S16x32x1023 : Shape := ⟨3, ![16, 32, 1023]⟩
abbrev S16x32 : Shape := ⟨2, ![16, 32]⟩
abbrev S1x1x5 : Shape := ⟨3, ![1, 1, 5]⟩
abbrev S1 : Shape := ⟨1, ![1]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S1x1024 : Shape := ⟨2, ![1, 1024]⟩
abbrev S512x1024 : Shape := ⟨2, ![512, 1024]⟩
abbrev S1x1025 : Shape := ⟨2, ![1, 1025]⟩
abbrev S_ : Shape := ⟨0, ![]⟩

class Facts : Prop where
  bcast_S_S16x32 : S_.BroadcastsInDim S16x32 (![] : Fin 0 → Fin S16x32.rank)
  reducesTo_S16x32_S_d0_1 : S16x32.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S16x32x1023 .f32) (main_arg1 : IVec S16x32 32) (main_arg2 : FVec F S1x1x5 .f32) (main_arg3 : FVec F S1 .f32) (main_arg4 : FVec F S1024x2048 .f32) (main_arg5 : FVec F S1024 .f32) (main_arg6 : FVec F S3072x1024 .f32) (main_arg7 : FVec F S3072x1024 .f32) (main_arg8 : FVec F S3072 .f32) (main_arg9 : FVec F S3072 .f32) (main_arg10 : FVec F S1x1024 .f32) (main_arg11 : FVec F S1 .f32) (main_arg12 : FVec F S512x1024 .f32) (main_arg13 : FVec F S1x1025 .f32) (main_arg14 : FVec F S1 .f32) : IVec S_ 1 :=
  let main_c : IVec S_ 32 := constantI S_ 32 0#32
  let main_v0 : IVec S16x32 32 := broadcastInDim S16x32 ![] bcast_S_S16x32 main_c
  let main_v1 : IVec S16x32 1 := cmpi .eq main_arg1 main_v0
  let main_c_0 : IVec S_ 1 := constantI S_ 1 1#1
  let main_v2 : IVec S_ 1 := (fun x v => Host.reduce IntOp.andi x v reducesTo_S16x32_S_d0_1 h_S_) main_v1 main_c_0
  let main_cst : FVec F S_ .f32 := constant S_ .f32 0x7F800000#32
  let main_v3 : FVec F S512x1024 .f32 := broadcastInDim S512x1024 ![] bcast_S_S512x1024 main_cst
  let main_v4 : IVec S512x1024 1 := cmpf .olt main_arg12 main_v3
  let main_c_1 : IVec S_ 1 := constantI S_ 1 1#1
  let main_v5 : IVec S_ 1 := (fun x v => Host.reduce IntOp.andi x v reducesTo_S512x1024_S_d0_1 h_S_) main_v4 main_c_1
  let main_v6 : IVec S_ 1 := andi main_v2 main_v5
  main_v6
-- ==== Kernel.lean ====
abbrev S16x32x1023 : Shape := ⟨3, ![16, 32, 1023]⟩
abbrev S16x32 : Shape := ⟨2, ![16, 32]⟩
abbrev S1x1x5 : Shape := ⟨3, ![1, 1, 5]⟩
abbrev S1 : Shape := ⟨1, ![1]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S1x1024 : Shape := ⟨2, ![1, 1024]⟩
abbrev S512x1024 : Shape := ⟨2, ![512, 1024]⟩
abbrev S1x1025 : Shape := ⟨2, ![1, 1025]⟩
abbrev S32x16x1023 : Shape := ⟨3, ![32, 16, 1023]⟩
abbrev S512x1023 : Shape := ⟨2, ![512, 1023]⟩
abbrev S_ : Shape := ⟨0, ![]⟩
abbrev S5 : Shape := ⟨1, ![5]⟩
abbrev S8 : Shape := ⟨1, ![8]⟩
abbrev S1x8 : Shape := ⟨2, ![1, 8]⟩
abbrev S1024x1 : Shape := ⟨2, ![1024, 1]⟩
abbrev S1024x126 : Shape := ⟨2, ![1024, 126]⟩
abbrev S1024x128 : Shape := ⟨2, ![1024, 128]⟩
abbrev S1024x3072 : Shape := ⟨2, ![1024, 3072]⟩
abbrev S1x3072 : Shape := ⟨2, ![1, 3072]⟩
abbrev S2048x1024 : Shape := ⟨2, ![2048, 1024]⟩
abbrev S16x2048 : Shape := ⟨2, ![16, 2048]⟩
abbrev S512x3072 : Shape := ⟨2, ![512, 3072]⟩
abbrev S16x1024 : Shape := ⟨2, ![16, 1024]⟩
abbrev S1536x1024 : Shape := ⟨2, ![1536, 1024]⟩
abbrev S1x1 : Shape := ⟨2, ![1, 1]⟩
abbrev S16x2 : Shape := ⟨2, ![16, 2]⟩
abbrev S16x1022 : Shape := ⟨2, ![16, 1022]⟩
abbrev S16x1 : Shape := ⟨2, ![16, 1]⟩
abbrev S16x1023 : Shape := ⟨2, ![16, 1023]⟩
abbrev S16x3072 : Shape := ⟨2, ![16, 3072]⟩
abbrev S32x1024 : Shape := ⟨2, ![32, 1024]⟩
abbrev S32x128 : Shape := ⟨2, ![32, 128]⟩
abbrev S16x512 : Shape := ⟨2, ![16, 512]⟩
abbrev S16x1536 : Shape := ⟨2, ![16, 1536]⟩

abbrev nBuf : Space → Nat
  | .hbm => 40
  | .vmem => 14
  | .smem => 1
  | _ => 0

abbrev bufTy : (tb : Table) → Fin (tcTables nBuf tb) → BufTy
  | .hbm, ⟨0, _⟩ => ⟨S16x32x1023, .f32⟩
  | .hbm, ⟨1, _⟩ => ⟨S16x32, .i32⟩
  | .hbm, ⟨2, _⟩ => ⟨S1x1x5, .f32⟩
  | .hbm, ⟨3, _⟩ => ⟨S1, .f32⟩
  | .hbm, ⟨4, _⟩ => ⟨S1024x2048, .f32⟩
  | .hbm, ⟨5, _⟩ => ⟨S1024, .f32⟩
  | .hbm, ⟨6, _⟩ => ⟨S3072x1024, .f32⟩
  | .hbm, ⟨7, _⟩ => ⟨S3072x1024, .f32⟩
  | .hbm, ⟨8, _⟩ => ⟨S3072, .f32⟩
  | .hbm, ⟨9, _⟩ => ⟨S3072, .f32⟩
  | .hbm, ⟨10, _⟩ => ⟨S1x1024, .f32⟩
  | .hbm, ⟨11, _⟩ => ⟨S1, .f32⟩
  | .hbm, ⟨12, _⟩ => ⟨S512x1024, .f32⟩
  | .hbm, ⟨13, _⟩ => ⟨S1x1025, .f32⟩
  | .hbm, ⟨14, _⟩ => ⟨S1, .f32⟩
  | .hbm, ⟨15, _⟩ => ⟨S32x16x1023, .f32⟩
  | .hbm, ⟨16, _⟩ => ⟨S512x1023, .f32⟩
  | .hbm, ⟨17, _⟩ => ⟨S_, .i32⟩
  | .hbm, ⟨18, _⟩ => ⟨S_, .f32⟩
  | .hbm, ⟨19, _⟩ => ⟨S512x1024, .f32⟩
  | .hbm, ⟨20, _⟩ => ⟨S5, .f32⟩
  | .hbm, ⟨21, _⟩ => ⟨S8, .f32⟩
  | .hbm, ⟨22, _⟩ => ⟨S1x8, .f32⟩
  | .hbm, ⟨23, _⟩ => ⟨S1024x1, .f32⟩
  | .hbm, ⟨24, _⟩ => ⟨S1x1024, .f32⟩
  | .hbm, ⟨25, _⟩ => ⟨S1024x1, .f32⟩
  | .hbm, ⟨26, _⟩ => ⟨S_, .f32⟩
  | .hbm, ⟨27, _⟩ => ⟨S1024x126, .f32⟩
  | .hbm, ⟨28, _⟩ => ⟨S1024x128, .f32⟩
  | .hbm, ⟨29, _⟩ => ⟨S1024x128, .bf16⟩
  | .hbm, ⟨30, _⟩ => ⟨S1024x3072, .f32⟩
  | .hbm, ⟨31, _⟩ => ⟨S1024x3072, .bf16⟩
  | .hbm, ⟨32, _⟩ => ⟨S1x3072, .f32⟩
  | .hbm, ⟨33, _⟩ => ⟨S2048x1024, .f32⟩
  | .hbm, ⟨34, _⟩ => ⟨S2048x1024, .bf16⟩
  | .hbm, ⟨35, _⟩ => ⟨S1x1024, .f32⟩
  | .hbm, ⟨36, _⟩ => ⟨S1024x3072, .f32⟩
  | .hbm, ⟨37, _⟩ => ⟨S1024x3072, .bf16⟩
  | .hbm, ⟨38, _⟩ => ⟨S1x3072, .f32⟩
  | .hbm, ⟨39, _⟩ => ⟨S16x2048, .f32⟩
  | .local _ .vmem, ⟨0, _⟩ => ⟨S512x1024, .f32⟩
  | .local _ .vmem, ⟨1, _⟩ => ⟨S1024x3072, .bf16⟩
  | .local _ .vmem, ⟨2, _⟩ => ⟨S1x3072, .f32⟩
  | .local _ .vmem, ⟨3, _⟩ => ⟨S2048x1024, .bf16⟩
  | .local _ .vmem, ⟨4, _⟩ => ⟨S1x1024, .f32⟩
  | .local _ .vmem, ⟨5, _⟩ => ⟨S1024x3072, .bf16⟩
  | .local _ .vmem, ⟨6, _⟩ => ⟨S1x3072, .f32⟩
  | .local _ .vmem, ⟨7, _⟩ => ⟨S1024x128, .bf16⟩
  | .local _ .vmem, ⟨8, _⟩ => ⟨S512x1024, .f32⟩
  | .local _ .vmem, ⟨9, _⟩ => ⟨S16x2048, .f32⟩
  | .local _ .vmem, ⟨10, _⟩ => ⟨S512x3072, .f32⟩
  | .local _ .vmem, ⟨11, _⟩ => ⟨S16x1024, .f32⟩
  | .local _ .vmem, ⟨12, _⟩ => ⟨S16x1024, .f32⟩
  | .local _ .vmem, ⟨13, _⟩ => ⟨S1536x1024, .bf16⟩
  | .local _ .smem, ⟨0, _⟩ => ⟨S1x8, .f32⟩
  | _, _ => ⟨S16x32x1023, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v40 : BitVec 32 := Scalar.addi c0_i32 c16_i32
  let c1_i32 : BitVec 32 := 1#32
  ⟨c0_i32, v40, c1_i32⟩
def k0_off1 (k0_t1 : Fin k0_t1_loop.trips) : Fin 2 → Nat :=
  let c2_i32_32 : BitVec 32 := 2#32
  let c0_i32 : BitVec 32 := 0#32
  let c1_i32 : BitVec 32 := 1#32
  let arg15 : BitVec 32 := Scf.iv c0_i32 c1_i32 k0_t1
  let v47 : BitVec 32 := Scalar.muli c2_i32_32 arg15
  let c16_i32_59 : BitVec 32 := 16#32
  let v115 : BitVec 32 := Scalar.muli v47 c16_i32_59
  let v116 : Index := Scalar.indexCast v115
  let c0_60 : Index := 0#32
  ![v116.toNat, 0]
def k0_off2 (k0_t1 : Fin k0_t1_loop.trips) : Fin 2 → Nat :=
  let c2_i32 : BitVec 32 := 2#32
  let c0_i32 : BitVec 32 := 0#32
  let c1_i32 : BitVec 32 := 1#32
  let arg15 : BitVec 32 := Scf.iv c0_i32 c1_i32 k0_t1
  let v45 : BitVec 32 := Scalar.muli c2_i32 arg15
  let c1_i32_31 : BitVec 32 := 1#32
  let v46 : BitVec 32 := Scalar.addi v45 c1_i32_31
  let c16_i32_107 : BitVec 32 := 16#32
  let v241 : BitVec 32 := Scalar.muli v46 c16_i32_107
  let v242 : Index := Scalar.indexCast v241
  let c0_108 : Index := 0#32
  ![v242.toNat, 0]
abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S16x32x1023 : Shape := ⟨3, ![16, 32, 1023]⟩
abbrev S16x32 : Shape := ⟨2, ![16, 32]⟩
abbrev S1x1x5 : Shape := ⟨3, ![1, 1, 5]⟩
abbrev S1 : Shape := ⟨1, ![1]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S1x1024 : Shape := ⟨2, ![1, 1024]⟩
abbrev S512x1024 : Shape := ⟨2, ![512, 1024]⟩
abbrev S1x1025 : Shape := ⟨2, ![1, 1025]⟩
abbrev S2048 : Shape := ⟨1, ![2048]⟩
abbrev S_ : Shape := ⟨0, ![]⟩
abbrev S16x1 : Shape := ⟨2, ![16, 1]⟩
abbrev S16x31 : Shape := ⟨2, ![16, 31]⟩
abbrev S5 : Shape := ⟨1, ![5]⟩
abbrev S16x1024 : Shape := ⟨2, ![16, 1024]⟩
abbrev S16x2048 : Shape := ⟨2, ![16, 2048]⟩
abbrev S16x1x1023 : Shape := ⟨3, ![16, 1, 1023]⟩
abbrev S16x1023 : Shape := ⟨2, ![16, 1023]⟩
abbrev S16x1028 : Shape := ⟨2, ![16, 1028]⟩
abbrev S1x1 : Shape := ⟨2, ![1, 1]⟩
abbrev S2048x1024 : Shape := ⟨2, ![2048, 1024]⟩
abbrev S1024x3072 : Shape := ⟨2, ![1024, 3072]⟩
abbrev S16x3072 : Shape := ⟨2, ![16, 3072]⟩
abbrev S1x3072 : Shape := ⟨2, ![1, 3072]⟩
abbrev S1024x1 : Shape := ⟨2, ![1024, 1]⟩
abbrev S16 : Shape := ⟨1, ![16]⟩
abbrev S16x1025 : Shape := ⟨2, ![16, 1025]⟩
abbrev S1025x1 : Shape := ⟨2, ![1025, 1]⟩
abbrev S16x1024x1 : Shape := ⟨3, ![16, 1024, 1]⟩
abbrev S1x1x1 : Shape := ⟨3, ![1, 1, 1]⟩
abbrev S1x2048 : Shape := ⟨2, ![1, 2048]⟩
abbrev S16x2048x1 : Shape := ⟨3, ![16, 2048, 1]⟩

abbrev nBuf : Space → Nat
  | .hbm => 311
  | .vmem => 0
  | .smem => 0
  | _ => 0

abbrev hbmTy0_0 (i : Nat) : BufTy := match i % 128 with
  | 0 => ⟨S16x32x1023, .f32⟩
  | 1 => ⟨S16x32, .i32⟩
  | 2 => ⟨S1x1x5, .f32⟩
  | 3 => ⟨S1, .f32⟩
  | 4 => ⟨S1024x2048, .f32⟩
  | 5 => ⟨S1024, .f32⟩
  | 6 => ⟨S3072x1024, .f32⟩
  | 7 => ⟨S3072x1024, .f32⟩
  | 8 => ⟨S3072, .f32⟩
  | 9 => ⟨S3072, .f32⟩
  | 10 => ⟨S1x1024, .f32⟩
  | 11 => ⟨S1, .f32⟩
  | 12 => ⟨S512x1024, .f32⟩
  | 13 => ⟨S1x1025, .f32⟩
  | 14 => ⟨S1, .f32⟩
  | 15 => ⟨S1024, .i32⟩
  | 16 => ⟨S2048, .i32⟩
  | 17 => ⟨S_, .i32⟩
  | 18 => ⟨S16x1, .i32⟩
  | 19 => ⟨S16x31, .i32⟩
  | 20 => ⟨S16x32, .i32⟩
  | 21 => ⟨S5, .f32⟩
  | 22 => ⟨S_, .f32⟩
  | 23 => ⟨S16x1024, .f32⟩
  | 24 => ⟨S_, .f32⟩
  | 25 => ⟨S16x2048, .f32⟩
  | 26 => ⟨S_, .i32⟩
  | 27 => ⟨S_, .i32⟩
  | 28 => ⟨S16x32x1023, .f32⟩
  | 29 => ⟨S16x32, .i32⟩
  | 30 => ⟨S16x32, .i32⟩
  | 31 => ⟨S5, .f32⟩
  | 32 => ⟨S1, .f32⟩
  | 33 => ⟨S1024x2048, .f32⟩
  | 34 => ⟨S1024, .f32⟩
  | 35 => ⟨S3072x1024, .f32⟩
  | 36 => ⟨S3072, .f32⟩
  | 37 => ⟨S3072x1024, .f32⟩
  | 38 => ⟨S3072, .f32⟩
  | 39 => ⟨S1x1024, .f32⟩
  | 40 => ⟨S1, .f32⟩
  | 41 => ⟨S512x1024, .f32⟩
  | 42 => ⟨S1x1025, .f32⟩
  | 43 => ⟨S1, .f32⟩
  | 44 => ⟨S1024, .i32⟩
  | 45 => ⟨S2048, .i32⟩
  | 46 => ⟨S_, .i32⟩
  | 47 => ⟨S_, .i32⟩
  | 48 => ⟨S16x1024, .f32⟩
  | 49 => ⟨S16x1024, .f32⟩
  | 50 => ⟨S16x2048, .f32⟩
  | 51 => ⟨S_, .i32⟩
  | 52 => ⟨S_, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S16x1x1023, .f32⟩
  | 64 => ⟨S16x1023, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S16x1, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S16x1, .i32⟩
  | 81 => ⟨S16x1, .i32⟩
  | 82 => ⟨S16x1, .f32⟩
  | 83 => ⟨S_, .i32⟩
  | 84 => ⟨S_, .f32⟩
  | 85 => ⟨S16x1028, .f32⟩
  | 86 => ⟨S1, .f32⟩
  | 87 => ⟨S_, .f32⟩
  | 88 => ⟨S16x1024, .f32⟩
  | 89 => ⟨S16x1024, .f32⟩
  | 90 => ⟨S16x1024, .f32⟩
  | 91 => ⟨S1, .f32⟩
  | 92 => ⟨S_, .f32⟩
  | 93 => ⟨S16x1024, .f32⟩
  | 94 => ⟨S16x1024, .f32⟩
  | 95 => ⟨S16x1024, .f32⟩
  | 96 => ⟨S16x1024, .f32⟩
  | 97 => ⟨S1, .f32⟩
  | 98 => ⟨S_, .f32⟩
  | 99 => ⟨S16x1024, .f32⟩
  | 100 => ⟨S16x1024, .f32⟩
  | 101 => ⟨S16x1024, .f32⟩
  | 102 => ⟨S16x1024, .f32⟩
  | 103 => ⟨S1, .f32⟩
  | 104 => ⟨S_, .f32⟩
  | 105 => ⟨S16x1024, .f32⟩
  | 106 => ⟨S16x1024, .f32⟩
  | 107 => ⟨S16x1024, .f32⟩
  | 108 => ⟨S16x1024, .f32⟩
  | 109 => ⟨S1, .f32⟩
  | 110 => ⟨S_, .f32⟩
  | 111 => ⟨S16x1024, .f32⟩
  | 112 => ⟨S16x1024, .f32⟩
  | 113 => ⟨S16x1024, .f32⟩
  | 114 => ⟨S16x1024, .f32⟩
  | 115 => ⟨S1x1, .f32⟩
  | 116 => ⟨S16x1024, .f32⟩
  | 117 => ⟨S16x1024, .f32⟩
  | 118 => ⟨S16x2048, .f32⟩
  | 119 => ⟨S_, .f32⟩
  | 120 => ⟨S16x2048, .f32⟩
  | 121 => ⟨S16x2048, .f32⟩
  | 122 => ⟨S2048x1024, .f32⟩
  | 123 => ⟨S16x1024, .f32⟩
  | 124 => ⟨S1x1024, .f32⟩
  | 125 => ⟨S16x1024, .f32⟩
  | 126 => ⟨S16x1024, .f32⟩
  | 127 => ⟨S16x1024, .f32⟩
  | _ => ⟨S16x32x1023, .f32⟩

abbrev hbmTy0_1 (i : Nat) : BufTy := match i % 128 with
  | 0 => ⟨S1024x3072, .f32⟩
  | 1 => ⟨S16x3072, .f32⟩
  | 2 => ⟨S1x3072, .f32⟩
  | 3 => ⟨S16x3072, .f32⟩
  | 4 => ⟨S16x3072, .f32⟩
  | 5 => ⟨S1024x3072, .f32⟩
  | 6 => ⟨S16x3072, .f32⟩
  | 7 => ⟨S1x3072, .f32⟩
  | 8 => ⟨S16x3072, .f32⟩
  | 9 => ⟨S16x3072, .f32⟩
  | 10 => ⟨S16x1024, .f32⟩
  | 11 => ⟨S16x1024, .f32⟩
  | 12 => ⟨S16x1024, .f32⟩
  | 13 => ⟨S16x1024, .f32⟩
  | 14 => ⟨S16x1024, .f32⟩
  | 15 => ⟨S_, .f32⟩
  | 16 => ⟨S16x1024, .f32⟩
  | 17 => ⟨S16x1024, .f32⟩
  | 18 => ⟨S_, .f32⟩
  | 19 => ⟨S16x1024, .f32⟩
  | 20 => ⟨S16x1024, .f32⟩
  | 21 => ⟨S16x1024, .f32⟩
  | 22 => ⟨S16x1024, .f32⟩
  | 23 => ⟨S16x1024, .f32⟩
  | 24 => ⟨S16x1024, .f32⟩
  | 25 => ⟨S16x1024, .f32⟩
  | 26 => ⟨S_, .f32⟩
  | 27 => ⟨S16x1024, .f32⟩
  | 28 => ⟨S16x1024, .f32⟩
  | 29 => ⟨S_, .f32⟩
  | 30 => ⟨S16x1024, .f32⟩
  | 31 => ⟨S16x1024, .f32⟩
  | 32 => ⟨S16x1024, .f32⟩
  | 33 => ⟨S16x1024, .f32⟩
  | 34 => ⟨S16x1024, .f32⟩
  | 35 => ⟨S16x1024, .f32⟩
  | 36 => ⟨S16x1024, .f32⟩
  | 37 => ⟨S_, .f32⟩
  | 38 => ⟨S16x1024, .f32⟩
  | 39 => ⟨S16x1024, .f32⟩
  | 40 => ⟨S16x1024, .f32⟩
  | 41 => ⟨S16x1024, .f32⟩
  | 42 => ⟨S16x1024, .f32⟩
  | 43 => ⟨S1024x1, .f32⟩
  | 44 => ⟨S16x1, .f32⟩
  | 45 => ⟨S1x1, .f32⟩
  | 46 => ⟨S16x1, .f32⟩
  | 47 => ⟨S16x1, .f32⟩
  | 48 => ⟨S16x1, .f32⟩
  | 49 => ⟨S16x1, .f32⟩
  | 50 => ⟨S_, .f32⟩
  | 51 => ⟨S16x1, .f32⟩
  | 52 => ⟨S16x1, .f32⟩
  | 53 => ⟨S_, .f32⟩
  | 54 => ⟨S16x1, .f32⟩
  | 55 => ⟨S16x1, .f32⟩
  | 56 => ⟨S16, .f32⟩
  | 57 => ⟨S_, .f32⟩
  | 58 => ⟨S16, .f32⟩
  | 59 => ⟨S16, .f32⟩
  | 60 => ⟨S16, .i32⟩
  | 61 => ⟨S_, .i32⟩
  | 62 => ⟨S16, .i32⟩
  | 63 => ⟨S16, .i1⟩
  | 64 => ⟨S_, .i32⟩
  | 65 => ⟨S16, .i32⟩
  | 66 => ⟨S16, .i32⟩
  | 67 => ⟨S16, .i32⟩
  | 68 => ⟨S16x1, .i32⟩
  | 69 => ⟨S16x1024, .f32⟩
  | 70 => ⟨S16x1025, .f32⟩
  | 71 => ⟨S_, .f32⟩
  | 72 => ⟨S16x1025, .f32⟩
  | 73 => ⟨S16x1025, .f32⟩
  | 74 => ⟨S1025x1, .f32⟩
  | 75 => ⟨S16x1, .f32⟩
  | 76 => ⟨S1x1, .f32⟩
  | 77 => ⟨S16x1, .f32⟩
  | 78 => ⟨S16x1, .f32⟩
  | 79 => ⟨S16x1, .f32⟩
  | 80 => ⟨S16x1, .f32⟩
  | 81 => ⟨S_, .f32⟩
  | 82 => ⟨S16x1, .f32⟩
  | 83 => ⟨S16x1, .f32⟩
  | 84 => ⟨S_, .f32⟩
  | 85 => ⟨S16x1, .f32⟩
  | 86 => ⟨S16x1, .f32⟩
  | 87 => ⟨S1x1024, .i32⟩
  | 88 => ⟨S16x1024, .i32⟩
  | 89 => ⟨S16x1024, .i32⟩
  | 90 => ⟨S16x1024, .i32⟩
  | 91 => ⟨S_, .i32⟩
  | 92 => ⟨S_, .i32⟩
  | 93 => ⟨S_, .i32⟩
  | 94 => ⟨S16x1024, .i32⟩
  | 95 => ⟨S16x1024, .i32⟩
  | 96 => ⟨S_, .i32⟩
  | 97 => ⟨S16x1024, .i32⟩
  | 98 => ⟨S16x1024, .i32⟩
  | 99 => ⟨S_, .i32⟩
  | 100 => ⟨S16x1024, .i32⟩
  | 101 => ⟨S16x1024, .i1⟩
  | 102 => ⟨S_, .i32⟩
  | 103 => ⟨S16x1024, .i32⟩
  | 104 => ⟨S16x1024, .i32⟩
  | 105 => ⟨S16x1024, .i32⟩
  | 106 => ⟨S16x1024x1, .i32⟩
  | 107 => ⟨S1, .i32⟩
  | 108 => ⟨S_, .i32⟩
  | 109 => ⟨S16x1024x1, .i32⟩
  | 110 => ⟨S16x1024x1, .i1⟩
  | 111 => ⟨S1x1x1, .i32⟩
  | 112 => ⟨S16x1024x1, .i32⟩
  | 113 => ⟨S16x1024x1, .i1⟩
  | 114 => ⟨S16x1024x1, .i1⟩
  | 115 => ⟨S_, .i1⟩
  | 116 => ⟨S16x1024, .i1⟩
  | 117 => ⟨S16x1024, .f32⟩
  | 118 => ⟨S_, .f32⟩
  | 119 => ⟨S16x1024, .f32⟩
  | 120 => ⟨S16x1024, .f32⟩
  | 121 => ⟨S_, .i32⟩
  | 122 => ⟨S16x1024, .i32⟩
  | 123 => ⟨S16x1024, .i1⟩
  | 124 => ⟨S_, .f32⟩
  | 125 => ⟨S_, .f32⟩
  | 126 => ⟨S16x1024, .f32⟩
  | 127 => ⟨S16x1024, .f32⟩
  | _ => ⟨S16x32x1023, .f32⟩

abbrev hbmTy0_2 (i : Nat) : BufTy := match i % 128 with
  | 0 => ⟨S16x1024, .f32⟩
  | 1 => ⟨S16x1024, .f32⟩
  | 2 => ⟨S16x1024, .f32⟩
  | 3 => ⟨S1x2048, .i32⟩
  | 4 => ⟨S16x2048, .i32⟩
  | 5 => ⟨S16x2048, .i32⟩
  | 6 => ⟨S16x2048, .i32⟩
  | 7 => ⟨S_, .i32⟩
  | 8 => ⟨S_, .i32⟩
  | 9 => ⟨S_, .i32⟩
  | 10 => ⟨S16x2048, .i32⟩
  | 11 => ⟨S16x2048, .i32⟩
  | 12 => ⟨S_, .i32⟩
  | 13 => ⟨S16x2048, .i32⟩
  | 14 => ⟨S16x2048, .i32⟩
  | 15 => ⟨S_, .i32⟩
  | 16 => ⟨S16x2048, .i32⟩
  | 17 => ⟨S16x2048, .i1⟩
  | 18 => ⟨S_, .i32⟩
  | 19 => ⟨S16x2048, .i32⟩
  | 20 => ⟨S16x2048, .i32⟩
  | 21 => ⟨S16x2048, .i32⟩
  | 22 => ⟨S16x2048x1, .i32⟩
  | 23 => ⟨S1, .i32⟩
  | 24 => ⟨S_, .i32⟩
  | 25 => ⟨S16x2048x1, .i32⟩
  | 26 => ⟨S16x2048x1, .i1⟩
  | 27 => ⟨S1x1x1, .i32⟩
  | 28 => ⟨S16x2048x1, .i32⟩
  | 29 => ⟨S16x2048x1, .i1⟩
  | 30 => ⟨S16x2048x1, .i1⟩
  | 31 => ⟨S_, .i1⟩
  | 32 => ⟨S16x2048, .i1⟩
  | 33 => ⟨S16x2048, .f32⟩
  | 34 => ⟨S_, .f32⟩
  | 35 => ⟨S16x2048, .f32⟩
  | 36 => ⟨S16x2048, .f32⟩
  | 37 => ⟨S1x2048, .i32⟩
  | 38 => ⟨S16x2048, .i32⟩
  | 39 => ⟨S16x2048, .i32⟩
  | 40 => ⟨S16x2048, .i1⟩
  | 41 => ⟨S_, .i32⟩
  | 42 => ⟨S16x2048, .i32⟩
  | 43 => ⟨S16x2048, .i1⟩
  | 44 => ⟨S_, .i32⟩
  | 45 => ⟨S16x2048, .i32⟩
  | 46 => ⟨S16x2048, .i1⟩
  | 47 => ⟨S16x2048, .i1⟩
  | 48 => ⟨S_, .f32⟩
  | 49 => ⟨S_, .f32⟩
  | 50 => ⟨S16x2048, .f32⟩
  | 51 => ⟨S16x2048, .f32⟩
  | 52 => ⟨S16x2048, .f32⟩
  | 53 => ⟨S_, .i32⟩
  | 54 => ⟨S_, .i32⟩
  | _ => ⟨S16x32x1023, .f32⟩

abbrev hbmTy (i : Nat) : BufTy := match i / 128 with
  | 0 => hbmTy0_0 i
  | 1 => hbmTy0_1 i
  | 2 => hbmTy0_2 i
  | _ => ⟨S16x32x1023, .f32⟩

abbrev bufTy : (tb : Table) → Fin (tcTables nBuf tb) → BufTy
  | .hbm, ⟨i, _⟩ => hbmTy i
  | _, _ => ⟨S16x32x1023, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_c_1 : Ref sig .tc := ⟨.hbm, 26, rfl⟩
abbrev main_c_2 : Ref sig .tc := ⟨.hbm, 27, rfl⟩
abbrev main_v8_0 : Ref sig .tc := ⟨.hbm, 28, rfl⟩
abbrev main_v8_1 : Ref sig .tc := ⟨.hbm, 29, rfl⟩
abbrev main_v8_2 : Ref sig .tc := ⟨.hbm, 30, rfl⟩
abbrev main_v8_3 : Ref sig .tc := ⟨.hbm, 31, rfl⟩
abbrev main_v8_4 : Ref sig .tc := ⟨.hbm, 32, rfl⟩
abbrev main_v8_5 : Ref sig .tc := ⟨.hbm, 33, rfl⟩
abbrev main_v8_6 : Ref sig .tc := ⟨.hbm, 34, rfl⟩
abbrev main_v8_7 : Ref sig .tc := ⟨.hbm, 35, rfl⟩
abbrev main_v8_8 : Ref sig .tc := ⟨.hbm, 36, rfl⟩
abbrev main_v8_9 : Ref sig .tc := ⟨.hbm, 37, rfl⟩
abbrev main_v8_10 : Ref sig .tc := ⟨.hbm, 38, rfl⟩
abbrev main_v8_11 : Ref sig .tc := ⟨.hbm, 39, rfl⟩
abbrev main_v8_12 : Ref sig .tc := ⟨.hbm, 40, rfl⟩
abbrev main_v8_13 : Ref sig .tc := ⟨.hbm, 41, rfl⟩
abbrev main_v8_14 : Ref sig .tc := ⟨.hbm, 42, rfl⟩
abbrev main_v8_15 : Ref sig .tc := ⟨.hbm, 43, rfl⟩
abbrev main_v8_16 : Ref sig .tc := ⟨.hbm, 44, rfl⟩
abbrev main_v8_17 : Ref sig .tc := ⟨.hbm, 45, rfl⟩
abbrev main_v8_18 : Ref sig .tc := ⟨.hbm, 46, rfl⟩
abbrev main_v8_19 : Ref sig .tc := ⟨.hbm, 47, rfl⟩
abbrev main_v8_20 : Ref sig .tc := ⟨.hbm, 48, rfl⟩
abbrev main_v8_21 : Ref sig .tc := ⟨.hbm, 49, rfl⟩
abbrev main_v8_22 : Ref sig .tc := ⟨.hbm, 50, rfl⟩
abbrev main_while0c_c_25 : Ref sig .tc := ⟨.hbm, 51, rfl⟩
abbrev main_while0c_v9 : Ref sig .tc := ⟨.hbm, 52, rfl⟩
abbrev main_while0b_c_25 : Ref sig .tc := ⟨.hbm, 53, rfl⟩
abbrev main_while0b_v9 : Ref sig .tc := ⟨.hbm, 54, rfl⟩
abbrev main_while0b_c_26 : Ref sig .tc := ⟨.hbm, 55, rfl⟩
abbrev main_while0b_v10 : Ref sig .tc := ⟨.hbm, 56, rfl⟩
abbrev main_while0b_v11 : Ref sig .tc := ⟨.hbm, 57, rfl⟩
abbrev main_while0b_c_27 : Ref sig .tc := ⟨.hbm, 58, rfl⟩
abbrev main_while0b_v12 : Ref sig .tc := ⟨.hbm, 59, rfl⟩
abbrev main_while0b_v13 : Ref sig .tc := ⟨.hbm, 60, rfl⟩
abbrev main_while0b_c_28 : Ref sig .tc := ⟨.hbm, 61, rfl⟩
abbrev main_while0b_c_29 : Ref sig .tc := ⟨.hbm, 62, rfl⟩
abbrev main_while0b_v14 : Ref sig .tc := ⟨.hbm, 63, rfl⟩
abbrev main_while0b_v15 : Ref sig .tc := ⟨.hbm, 64, rfl⟩
abbrev main_while0b_c_30 : Ref sig .tc := ⟨.hbm, 65, rfl⟩
abbrev main_while0b_v16 : Ref sig .tc := ⟨.hbm, 66, rfl⟩
abbrev main_while0b_v17 : Ref sig .tc := ⟨.hbm, 67, rfl⟩
abbrev main_while0b_c_31 : Ref sig .tc := ⟨.hbm, 68, rfl⟩
abbrev main_while0b_v18 : Ref sig .tc := ⟨.hbm, 69, rfl⟩
abbrev main_while0b_v19 : Ref sig .tc := ⟨.hbm, 70, rfl⟩
abbrev main_while0b_c_32 : Ref sig .tc := ⟨.hbm, 71, rfl⟩
abbrev main_while0b_v20 : Ref sig .tc := ⟨.hbm, 72, rfl⟩
abbrev main_while0b_c_33 : Ref sig .tc := ⟨.hbm, 73, rfl⟩
abbrev main_while0b_v21 : Ref sig .tc := ⟨.hbm, 74, rfl⟩
abbrev main_while0b_v22 : Ref sig .tc := ⟨.hbm, 75, rfl⟩
abbrev main_while0b_c_34 : Ref sig .tc := ⟨.hbm, 76, rfl⟩
abbrev main_while0b_v23 : Ref sig .tc := ⟨.hbm, 77, rfl⟩
abbrev main_while0b_v24 : Ref sig .tc := ⟨.hbm, 78, rfl⟩
abbrev main_while0b_c_35 : Ref sig .tc := ⟨.hbm, 79, rfl⟩
abbrev main_while0b_v25 : Ref sig .tc := ⟨.hbm, 80, rfl⟩
abbrev main_while0b_v26 : Ref sig .tc := ⟨.hbm, 81, rfl⟩
abbrev main_while0b_v27 : Ref sig .tc := ⟨.hbm, 82, rfl⟩
abbrev main_while0b_c_36 : Ref sig .tc := ⟨.hbm, 83, rfl⟩
abbrev main_while0b_call0_v0 : Ref sig .tc := ⟨.hbm, 84, rfl⟩
abbrev main_while0b_v28 : Ref sig .tc := ⟨.hbm, 85, rfl⟩
abbrev main_while0b_v29 : Ref sig .tc := ⟨.hbm, 86, rfl⟩
abbrev main_while0b_v30 : Ref sig .tc := ⟨.hbm, 87, rfl⟩
abbrev main_while0b_v31 : Ref sig .tc := ⟨.hbm, 88, rfl⟩
abbrev main_while0b_v32 : Ref sig .tc := ⟨.hbm, 89, rfl⟩
abbrev main_while0b_v33 : Ref sig .tc := ⟨.hbm, 90, rfl⟩
abbrev main_while0b_v34 : Ref sig .tc := ⟨.hbm, 91, rfl⟩
abbrev main_while0b_v35 : Ref sig .tc := ⟨.hbm, 92, rfl⟩
abbrev main_while0b_v36 : Ref sig .tc := ⟨.hbm, 93, rfl⟩
abbrev main_while0b_v37 : Ref sig .tc := ⟨.hbm, 94, rfl⟩
abbrev main_while0b_v38 : Ref sig .tc := ⟨.hbm, 95, rfl⟩
abbrev main_while0b_v39 : Ref sig .tc := ⟨.hbm, 96, rfl⟩
abbrev main_while0b_v40 : Ref sig .tc := ⟨.hbm, 97, rfl⟩
abbrev main_while0b_v41 : Ref sig .tc := ⟨.hbm, 98, rfl⟩
abbrev main_while0b_v42 : Ref sig .tc := ⟨.hbm, 99, rfl⟩
abbrev main_while0b_v43 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_v50 : Ref sig .tc := ⟨.hbm, 107, rfl⟩
abbrev main_while0b_v51 : Ref sig .tc := ⟨.hbm, 108, rfl⟩
abbrev main_while0b_v52 : Ref sig .tc := ⟨.hbm, 109, rfl⟩
abbrev main_while0b_v53 : Ref sig .tc := ⟨.hbm, 110, rfl⟩
abbrev main_while0b_v54 : Ref sig .tc := ⟨.hbm, 111, rfl⟩
abbrev main_while0b_v55 : Ref sig .tc := ⟨.hbm, 112, rfl⟩
abbrev main_while0b_v56 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_cst_37 : Ref sig .tc := ⟨.hbm, 119, rfl⟩
abbrev main_while0b_v62 : Ref sig .tc := ⟨.hbm, 120, rfl⟩
abbrev main_while0b_v63 : Ref sig .tc := ⟨.hbm, 121, rfl⟩
abbrev main_while0b_v64 : Ref sig .tc := ⟨.hbm, 122, rfl⟩
abbrev main_while0b_v65 : Ref sig .tc := ⟨.hbm, 123, rfl⟩
abbrev main_while0b_v66 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_v72 : Ref sig .tc := ⟨.hbm, 130, rfl⟩
abbrev main_while0b_v73 : Ref sig .tc := ⟨.hbm, 131, rfl⟩
abbrev main_while0b_v74 : Ref sig .tc := ⟨.hbm, 132, rfl⟩
abbrev main_while0b_v75 : Ref sig .tc := ⟨.hbm, 133, rfl⟩
abbrev main_while0b_v76 : Ref sig .tc := ⟨.hbm, 134, rfl⟩
abbrev main_while0b_v77 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_v81 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_cst_38 : Ref sig .tc := ⟨.hbm, 143, rfl⟩
abbrev main_while0b_v85 : Ref sig .tc := ⟨.hbm, 144, rfl⟩
abbrev main_while0b_v86 : Ref sig .tc := ⟨.hbm, 145, rfl⟩
abbrev main_while0b_cst_39 : Ref sig .tc := ⟨.hbm, 146, rfl⟩
abbrev main_while0b_v87 : Ref sig .tc := ⟨.hbm, 147, rfl⟩
abbrev main_while0b_v88 : Ref sig .tc := ⟨.hbm, 148, rfl⟩
abbrev main_while0b_v89 : Ref sig .tc := ⟨.hbm, 149, rfl⟩
abbrev main_while0b_v90 : Ref sig .tc := ⟨.hbm, 150, rfl⟩
abbrev main_while0b_v91 : Ref sig .tc := ⟨.hbm, 151, rfl⟩
abbrev main_while0b_v92 : Ref sig .tc := ⟨.hbm, 152, rfl⟩
abbrev main_while0b_v93 : Ref sig .tc := ⟨.hbm, 153, rfl⟩
abbrev main_while0b_cst_40 : Ref sig .tc := ⟨.hbm, 154, rfl⟩
abbrev main_while0b_v94 : Ref sig .tc := ⟨.hbm, 155, rfl⟩
abbrev main_while0b_v95 : Ref sig .tc := ⟨.hbm, 156, rfl⟩
abbrev main_while0b_cst_41 : Ref sig .tc := ⟨.hbm, 157, rfl⟩
abbrev main_while0b_v96 : Ref sig .tc := ⟨.hbm, 158, rfl⟩
abbrev main_while0b_v97 : Ref sig .tc := ⟨.hbm, 159, rfl⟩
abbrev main_while0b_v98 : Ref sig .tc := ⟨.hbm, 160, rfl⟩
abbrev main_while0b_v99 : Ref sig .tc := ⟨.hbm, 161, rfl⟩
abbrev main_while0b_v100 : Ref sig .tc := ⟨.hbm, 162, rfl⟩
abbrev main_while0b_v101 : Ref sig .tc := ⟨.hbm, 163, rfl⟩
abbrev main_while0b_v102 : Ref sig .tc := ⟨.hbm, 164, rfl⟩
abbrev main_while0b_cst_42 : Ref sig .tc := ⟨.hbm, 165, rfl⟩
abbrev main_while0b_v103 : Ref sig .tc := ⟨.hbm, 166, rfl⟩
abbrev main_while0b_v104 : Ref sig .tc := ⟨.hbm, 167, rfl⟩
abbrev main_while0b_v105 : Ref sig .tc := ⟨.hbm, 168, rfl⟩
abbrev main_while0b_v106 : Ref sig .tc := ⟨.hbm, 169, rfl⟩
abbrev main_while0b_v107 : Ref sig .tc := ⟨.hbm, 170, rfl⟩
abbrev main_while0b_v108 : Ref sig .tc := ⟨.hbm, 171, rfl⟩
abbrev main_while0b_v109 : Ref sig .tc := ⟨.hbm, 172, rfl⟩
abbrev main_while0b_v110 : Ref sig .tc := ⟨.hbm, 173, rfl⟩
abbrev main_while0b_v111 : Ref sig .tc := ⟨.hbm, 174, rfl⟩
abbrev main_while0b_v112 : Ref sig .tc := ⟨.hbm, 175, rfl⟩
abbrev main_while0b_v113 : Ref sig .tc := ⟨.hbm, 176, rfl⟩
abbrev main_while0b_v114 : Ref sig .tc := ⟨.hbm, 177, rfl⟩
abbrev main_while0b_cst_43 : Ref sig .tc := ⟨.hbm, 178, rfl⟩
abbrev main_while0b_v115 : Ref sig .tc := ⟨.hbm, 179, rfl⟩
abbrev main_while0b_v116 : Ref sig .tc := ⟨.hbm, 180, rfl⟩
abbrev main_while0b_cst_44 : Ref sig .tc := ⟨.hbm, 181, rfl⟩
abbrev main_while0b_v117 : Ref sig .tc := ⟨.hbm, 182, rfl⟩
abbrev main_while0b_v118 : Ref sig .tc := ⟨.hbm, 183, rfl⟩
abbrev main_while0b_v119 : Ref sig .tc := ⟨.hbm, 184, rfl⟩
abbrev main_while0b_cst_45 : Ref sig .tc := ⟨.hbm, 185, rfl⟩
abbrev main_while0b_v120 : Ref sig .tc := ⟨.hbm, 186, rfl⟩
abbrev main_while0b_v121 : Ref sig .tc := ⟨.hbm, 187, rfl⟩
abbrev main_while0b_v122 : Ref sig .tc := ⟨.hbm, 188, rfl⟩
abbrev main_while0b_c_46 : Ref sig .tc := ⟨.hbm, 189, rfl⟩
abbrev main_while0b_v123 : Ref sig .tc := ⟨.hbm, 190, rfl⟩
abbrev main_while0b_v124 : Ref sig .tc := ⟨.hbm, 191, rfl⟩
abbrev main_while0b_c_47 : Ref sig .tc := ⟨.hbm, 192, rfl⟩
abbrev main_while0b_v125 : Ref sig .tc := ⟨.hbm, 193, rfl⟩
abbrev main_while0b_v126 : Ref sig .tc := ⟨.hbm, 194, rfl⟩
abbrev main_while0b_v127 : Ref sig .tc := ⟨.hbm, 195, rfl⟩
abbrev main_while0b_v128 : Ref sig .tc := ⟨.hbm, 196, rfl⟩
abbrev main_while0b_v129 : Ref sig .tc := ⟨.hbm, 197, rfl⟩
abbrev main_while0b_v130 : Ref sig .tc := ⟨.hbm, 198, rfl⟩
abbrev main_while0b_cst_48 : Ref sig .tc := ⟨.hbm, 199, rfl⟩
abbrev main_while0b_v131 : Ref sig .tc := ⟨.hbm, 200, rfl⟩
abbrev main_while0b_v132 : Ref sig .tc := ⟨.hbm, 201, rfl⟩
abbrev main_while0b_v133 : Ref sig .tc := ⟨.hbm, 202, rfl⟩
abbrev main_while0b_v134 : Ref sig .tc := ⟨.hbm, 203, rfl⟩
abbrev main_while0b_v135 : Ref sig .tc := ⟨.hbm, 204, rfl⟩
abbrev main_while0b_v136 : Ref sig .tc := ⟨.hbm, 205, rfl⟩
abbrev main_while0b_v137 : Ref sig .tc := ⟨.hbm, 206, rfl⟩
abbrev main_while0b_v138 : Ref sig .tc := ⟨.hbm, 207, rfl⟩
abbrev main_while0b_v139 : Ref sig .tc := ⟨.hbm, 208, rfl⟩
abbrev main_while0b_cst_49 : Ref sig .tc := ⟨.hbm, 209, rfl⟩
abbrev main_while0b_v140 : Ref sig .tc := ⟨.hbm, 210, rfl⟩
abbrev main_while0b_v141 : Ref sig .tc := ⟨.hbm, 211, rfl⟩
abbrev main_while0b_cst_50 : Ref sig .tc := ⟨.hbm, 212, rfl⟩
abbrev main_while0b_v142 : Ref sig .tc := ⟨.hbm, 213, rfl⟩
abbrev main_while0b_v143 : Ref sig .tc := ⟨.hbm, 214, rfl⟩
abbrev main_while0b_v144 : Ref sig .tc := ⟨.hbm, 215, rfl⟩
abbrev main_while0b_v145 : Ref sig .tc := ⟨.hbm, 216, rfl⟩
abbrev main_while0b_v146 : Ref sig .tc := ⟨.hbm, 217, rfl⟩
abbrev main_while0b_v147 : Ref sig .tc := ⟨.hbm, 218, rfl⟩
abbrev main_while0b_c_51 : Ref sig .tc := ⟨.hbm, 219, rfl⟩
abbrev main_while0b_c_52 : Ref sig .tc := ⟨.hbm, 220, rfl⟩
abbrev main_while0b_call1_v0 : Ref sig .tc := ⟨.hbm, 221, rfl⟩
abbrev main_while0b_call1_v1 : Ref sig .tc := ⟨.hbm, 222, rfl⟩
abbrev main_while0b_call1_v2 : Ref sig .tc := ⟨.hbm, 223, rfl⟩
abbrev main_while0b_call1_v3 : Ref sig .tc := ⟨.hbm, 224, rfl⟩
abbrev main_while0b_call1_v4 : Ref sig .tc := ⟨.hbm, 225, rfl⟩
abbrev main_while0b_v148 : Ref sig .tc := ⟨.hbm, 226, rfl⟩
abbrev main_while0b_call2_c : Ref sig .tc := ⟨.hbm, 227, rfl⟩
abbrev main_while0b_call2_v0 : Ref sig .tc := ⟨.hbm, 228, rfl⟩
abbrev main_while0b_call2_v1 : Ref sig .tc := ⟨.hbm, 229, rfl⟩
abbrev main_while0b_call2_c_0 : Ref sig .tc := ⟨.hbm, 230, rfl⟩
abbrev main_while0b_call2_v2 : Ref sig .tc := ⟨.hbm, 231, rfl⟩
abbrev main_while0b_call2_v3 : Ref sig .tc := ⟨.hbm, 232, rfl⟩
abbrev main_while0b_call2_v4 : Ref sig .tc := ⟨.hbm, 233, rfl⟩
abbrev main_while0b_call2_v5 : Ref sig .tc := ⟨.hbm, 234, rfl⟩
abbrev main_while0b_call2_c_1 : Ref sig .tc := ⟨.hbm, 235, rfl⟩
abbrev main_while0b_call2_c_2 : Ref sig .tc := ⟨.hbm, 236, rfl⟩
abbrev main_while0b_call2_v6 : Ref sig .tc := ⟨.hbm, 237, rfl⟩
abbrev main_while0b_call2_v7 : Ref sig .tc := ⟨.hbm, 238, rfl⟩
abbrev main_while0b_call2_v8 : Ref sig .tc := ⟨.hbm, 239, rfl⟩
abbrev main_while0b_call2_v9 : Ref sig .tc := ⟨.hbm, 240, rfl⟩
abbrev main_while0b_call2_v10 : Ref sig .tc := ⟨.hbm, 241, rfl⟩
abbrev main_while0b_call2_v11 : Ref sig .tc := ⟨.hbm, 242, rfl⟩
abbrev main_while0b_call2_c_3 : Ref sig .tc := ⟨.hbm, 243, rfl⟩
abbrev main_while0b_call2_v12 : Ref sig .tc := ⟨.hbm, 244, rfl⟩
abbrev main_while0b_call2_v13 : Ref sig .tc := ⟨.hbm, 245, rfl⟩
abbrev main_while0b_call2_cst : Ref sig .tc := ⟨.hbm, 246, rfl⟩
abbrev main_while0b_call2_v14 : Ref sig .tc := ⟨.hbm, 247, rfl⟩
abbrev main_while0b_v149 : Ref sig .tc := ⟨.hbm, 248, rfl⟩
abbrev main_while0b_c_53 : Ref sig .tc := ⟨.hbm, 249, rfl⟩
abbrev main_while0b_v150 : Ref sig .tc := ⟨.hbm, 250, rfl⟩
abbrev main_while0b_v151 : Ref sig .tc := ⟨.hbm, 251, rfl⟩
abbrev main_while0b_cst_54 : Ref sig .tc := ⟨.hbm, 252, rfl⟩
abbrev main_while0b_call3_v0 : Ref sig .tc := ⟨.hbm, 253, rfl⟩
abbrev main_while0b_call3_v1 : Ref sig .tc := ⟨.hbm, 254, rfl⟩
abbrev main_while0b_v152 : Ref sig .tc := ⟨.hbm, 255, rfl⟩
abbrev main_while0b_v153 : Ref sig .tc := ⟨.hbm, 256, rfl⟩
abbrev main_while0b_v154 : Ref sig .tc := ⟨.hbm, 257, rfl⟩
abbrev main_while0b_v155 : Ref sig .tc := ⟨.hbm, 258, rfl⟩
abbrev main_while0b_v156 : Ref sig .tc := ⟨.hbm, 259, rfl⟩
abbrev main_while0b_v157 : Ref sig .tc := ⟨.hbm, 260, rfl⟩
abbrev main_while0b_v158 : Ref sig .tc := ⟨.hbm, 261, rfl⟩
abbrev main_while0b_v159 : Ref sig .tc := ⟨.hbm, 262, rfl⟩
abbrev main_while0b_c_55 : Ref sig .tc := ⟨.hbm, 263, rfl⟩
abbrev main_while0b_c_56 : Ref sig .tc := ⟨.hbm, 264, rfl⟩
abbrev main_while0b_call4_v0 : Ref sig .tc := ⟨.hbm, 265, rfl⟩
abbrev main_while0b_call4_v1 : Ref sig .tc := ⟨.hbm, 266, rfl⟩
abbrev main_while0b_call4_v2 : Ref sig .tc := ⟨.hbm, 267, rfl⟩
abbrev main_while0b_call4_v3 : Ref sig .tc := ⟨.hbm, 268, rfl⟩
abbrev main_while0b_call4_v4 : Ref sig .tc := ⟨.hbm, 269, rfl⟩
abbrev main_while0b_v160 : Ref sig .tc := ⟨.hbm, 270, rfl⟩
abbrev main_while0b_call5_c : Ref sig .tc := ⟨.hbm, 271, rfl⟩
abbrev main_while0b_call5_v0 : Ref sig .tc := ⟨.hbm, 272, rfl⟩
abbrev main_while0b_call5_v1 : Ref sig .tc := ⟨.hbm, 273, rfl⟩
abbrev main_while0b_call5_c_0 : Ref sig .tc := ⟨.hbm, 274, rfl⟩
abbrev main_while0b_call5_v2 : Ref sig .tc := ⟨.hbm, 275, rfl⟩
abbrev main_while0b_call5_v3 : Ref sig .tc := ⟨.hbm, 276, rfl⟩
abbrev main_while0b_call5_v4 : Ref sig .tc := ⟨.hbm, 277, rfl⟩
abbrev main_while0b_call5_v5 : Ref sig .tc := ⟨.hbm, 278, rfl⟩
abbrev main_while0b_call5_c_1 : Ref sig .tc := ⟨.hbm, 279, rfl⟩
abbrev main_while0b_call5_c_2 : Ref sig .tc := ⟨.hbm, 280, rfl⟩
abbrev main_while0b_call5_v6 : Ref sig .tc := ⟨.hbm, 281, rfl⟩
abbrev main_while0b_call5_v7 : Ref sig .tc := ⟨.hbm, 282, rfl⟩
abbrev main_while0b_call5_v8 : Ref sig .tc := ⟨.hbm, 283, rfl⟩
abbrev main_while0b_call5_v9 : Ref sig .tc := ⟨.hbm, 284, rfl⟩
abbrev main_while0b_call5_v10 : Ref sig .tc := ⟨.hbm, 285, rfl⟩
abbrev main_while0b_call5_v11 : Ref sig .tc := ⟨.hbm, 286, rfl⟩
abbrev main_while0b_call5_c_3 : Ref sig .tc := ⟨.hbm, 287, rfl⟩
abbrev main_while0b_call5_v12 : Ref sig .tc := ⟨.hbm, 288, rfl⟩
abbrev main_while0b_call5_v13 : Ref sig .tc := ⟨.hbm, 289, rfl⟩
abbrev main_while0b_call5_cst : Ref sig .tc := ⟨.hbm, 290, rfl⟩
abbrev main_while0b_call5_v14 : Ref sig .tc := ⟨.hbm, 291, rfl⟩
abbrev main_while0b_v161 : Ref sig .tc := ⟨.hbm, 292, rfl⟩
abbrev main_while0b_v162 : Ref sig .tc := ⟨.hbm, 293, rfl⟩
abbrev main_while0b_v163 : Ref sig .tc := ⟨.hbm, 294, rfl⟩
abbrev main_while0b_v164 : Ref sig .tc := ⟨.hbm, 295, rfl⟩
abbrev main_while0b_v165 : Ref sig .tc := ⟨.hbm, 296, rfl⟩
abbrev main_while0b_c_57 : Ref sig .tc := ⟨.hbm, 297, rfl⟩
abbrev main_while0b_v166 : Ref sig .tc := ⟨.hbm, 298, rfl⟩
abbrev main_while0b_v167 : Ref sig .tc := ⟨.hbm, 299, rfl⟩
abbrev main_while0b_c_58 : Ref sig .tc := ⟨.hbm, 300, rfl⟩
abbrev main_while0b_v168 : Ref sig .tc := ⟨.hbm, 301, rfl⟩
abbrev main_while0b_v169 : Ref sig .tc := ⟨.hbm, 302, rfl⟩
abbrev main_while0b_v170 : Ref sig .tc := ⟨.hbm, 303, rfl⟩
abbrev main_while0b_cst_59 : Ref sig .tc := ⟨.hbm, 304, rfl⟩
abbrev main_while0b_call6_v0 : Ref sig .tc := ⟨.hbm, 305, rfl⟩
abbrev main_while0b_call6_v1 : Ref sig .tc := ⟨.hbm, 306, rfl⟩
abbrev main_while0b_v171 : Ref sig .tc := ⟨.hbm, 307, rfl⟩
abbrev main_while0b_v172 : Ref sig .tc := ⟨.hbm, 308, rfl⟩
abbrev main_while0b_c_60 : Ref sig .tc := ⟨.hbm, 309, rfl⟩
abbrev main_while0b_v173 : Ref sig .tc := ⟨.hbm, 310, rfl⟩

abbrev nD : Nat := 1
abbrev τ : Topo := Topo.v7x

variable {F : FTy → Type} [FloatOps F]

abbrev main_while0_count : Scf.Loop 32 := ⟨0#32, 32#32, 1#32⟩
-- ==== Proof.Frames.lean ====
/- The frames: all three programs run to completion from any memory with zero counters, leave their fifteen argument
   arrays unchanged and end with every semaphore counter at zero. The kernel's two frames are the generated ones; the
   reference's is the last part of its generated run, and it declares no semaphore. -/
module

public import proofs.«01_k».proof.Defs
public import proofs.«01_k».proof.Proof.Gen.Kernel.Frame
public import proofs.«01_k».proof.Proof.Gen.KernelIdeal.Frame
public import proofs.«01_k».proof.Proof.Gen.ReferenceIdeal.StepRun
public import Idealize.ShloMosaic.Lib.Quiescent

@[expose] public section

noncomputable section

namespace Cert.Proof

open Idealize.ShloMosaic Idealize.SL.Sem

theorem frame_kernel : Cert.quiescent_Kernel (hKernel := Cert.Kernel.Gen.facts) :=
  fun m ρ _ => Cert.Kernel.Gen.frame m ρ

theorem frame_kernelIdeal : Cert.quiescent_KernelIdeal (hKernelIdeal := Cert.KernelIdeal.Gen.facts) :=
  fun m ρ _ => Cert.KernelIdeal.Gen.frame m ρ

theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run m ρ)

end Cert.Proof

end
-- ==== Proof.KTrip.lean ====
/- What one trip of the kernel's loop does to the two carried arrays, as a function of values.

   The kernel keeps the state `st` and the hidden vector `ht` in two scratch arrays and makes two recurrence steps per
   trip. Each step is a pure function of the two arrays, of the constants the loop reads (`Consts`) and of sixteen rows of
   the input projection `g`. Here the two steps are named (`step`, `step'`, over the kernel's own payload terms) and a
   trip's stores are read back as the second step after the first. -/
module

public import proofs.«01_k».proof.Proof.Frames
public import proofs.«01_k».proof.Proof.Gen.KernelIdeal.Value
public import Idealize.ShloMosaic.Lib.VecWindow

@[expose] public section

set_option maxRecDepth 16384

noncomputable section

namespace Cert.KernelIdeal.Trip

open Idealize.ShloMosaic Idealize.ShloMosaic.TcCoe Idealize.ShloMosaic.Tactic
open Idealize.SL Idealize.SL.Sem
open Cert.KernelIdeal Cert.KernelIdeal.Gen

variable {F : FTy → Type} [FloatOps F]

/-- What the loop reads and never writes: the eight scalars, the weights and biases of the two products of a step, the two
    read-out columns, the projected input rows and the three stacked pieces of the embedding table. -/
structure Consts (F : FTy → Type) [FloatOps F] where
  scal : Vec F S1x8 .f32
  wmt : Vec F S2048x1024 .bf16
  bmt : Vec F S1x1024 .f32
  whh : Vec F S1024x3072 .bf16
  bhh : Vec F S1x3072 .f32
  whead : Vec F S1024x128 .bf16
  g : Vec F S512x3072 .f32
  es : Vec F S1536x1024 .bf16

/-- The state a step carries. -/
structure St (F : FTy → Type) [FloatOps F] where
  st : Vec F S16x1024 .f32
  ht : Vec F S16x1024 .f32

/-- Scalar number `j`, as the kernel loads it. -/
def sc (C : Consts F) (j : ℕ) (h : ∀ a, (![0, j] : Fin 2 → ℕ) a + S1x1.size a ≤ S1x8.size a) : F .f32 :=
  View.ld C.scal (Rect.unit ![0, j] S1x1.size h) (Shape.Idx.first (by show 0 < S1x1.numel; rw [numel1_S1x1]; exact Nat.one_pos))

/-- The first intermediate product of a step (the `h1` of the convolved state and the hidden vector). -/
def h1 (C : Consts F) (s : St F) : Vec F S16x1024 .f32 :=
  k0_pay11 s.ht (k0_pay5 s.st) (k0_pay6 s.st (sc C 0 inb_S1x8_S1x1_0_0)) (k0_pay7 s.st (sc C 1 inb_S1x8_S1x1_0_1))
    (k0_pay8 s.st (sc C 2 inb_S1x8_S1x1_0_2)) (k0_pay9 s.st (sc C 3 inb_S1x8_S1x1_0_3)) (k0_pay10 (sc C 4 inb_S1x8_S1x1_0_4))
    (sc C 5 inb_S1x8_S1x1_0_5) C.wmt C.bmt

/-- The hidden projection of a step. -/
def gh (C : Consts F) (s : St F) : Vec F S16x3072 .f32 :=
  k0_pay12 s.ht (k0_pay5 s.st) (k0_pay6 s.st (sc C 0 inb_S1x8_S1x1_0_0)) (k0_pay7 s.st (sc C 1 inb_S1x8_S1x1_0_1))
    (k0_pay8 s.st (sc C 2 inb_S1x8_S1x1_0_2)) (k0_pay9 s.st (sc C 3 inb_S1x8_S1x1_0_3)) (k0_pay10 (sc C 4 inb_S1x8_S1x1_0_4))
    (sc C 5 inb_S1x8_S1x1_0_5) C.wmt C.bmt C.whh C.bhh

/-- The reset gate. -/
def rg (C : Consts F) (gi : Vec F S16x3072 .f32) (s : St F) : Vec F S16x1024 .f32 :=
  logistic (addf (extractStridedSlice S16x1024 ![0, 0] gi slices_S16x3072_o0_0_S16x1024)
    (extractStridedSlice S16x1024 ![0, 0] (gh C s) slices_S16x3072_o0_0_S16x1024))

/-- The update gate. -/
def zg (C : Consts F) (gi : Vec F S16x3072 .f32) (s : St F) : Vec F S16x1024 .f32 :=
  logistic (addf (extractStridedSlice S16x1024 ![0, 1024] gi slices_S16x3072_o0_1024_S16x1024)
    (extractStridedSlice S16x1024 ![0, 1024] (gh C s) slices_S16x3072_o0_1024_S16x1024))

/-- The third blocks of the two projections. -/
def n1 (gi : Vec F S16x3072 .f32) : Vec F S16x1024 .f32 :=
  extractStridedSlice S16x1024 ![0, 2048] gi slices_S16x3072_o0_2048_S16x1024
def n2 (C : Consts F) (s : St F) : Vec F S16x1024 .f32 :=
  extractStridedSlice S16x1024 ![0, 2048] (gh C s) slices_S16x3072_o0_2048_S16x1024

/-- The new hidden vector. -/
def htNew (C : Consts F) (gi : Vec F S16x3072 .f32) (s : St F) : Vec F S16x1024 .f32 :=
  k0_pay19 (k0_pay17 (h1 C s) (rg C gi s) (zg C gi s) (n1 gi) (n2 C s))

/-- The new state. -/
def stNew (C : Consts F) (gi : Vec F S16x3072 .f32) (s : St F) : Vec F S16x1024 .f32 :=
  k0_pay18 s.st (h1 C s) (rg C gi s) (zg C gi s) (n1 gi) (n2 C s) C.whead (sc C 6 inb_S1x8_S1x1_0_6) C.es
    (sc C 7 inb_S1x8_S1x1_0_7)

/-- ONE STEP: both arrays replaced. -/
def step (C : Consts F) (gi : Vec F S16x3072 .f32) (s : St F) : St F := ⟨stNew C gi s, htNew C gi s⟩

/-- The sixteen rows of `g` that the first step of trip `k` reads … -/
def rows1 (C : Consts F) (k : Fin k0_t1_loop.trips) : Vec F S16x3072 .f32 :=
  View.ld C.g (Rect.unit (k0_off1 k) S16x3072.size (k0_off1_inb k))
/-- … and the sixteen that the second step reads. -/
def rows2 (C : Consts F) (k : Fin k0_t1_loop.trips) : Vec F S16x3072 .f32 :=
  View.ld C.g (Rect.unit (k0_off2 k) S16x3072.size (k0_off2_inb k))

/-- The second step of a trip, over the payloads the program names for it, is the first step's function. -/
theorem second_step (C : Consts F) (gi : Vec F S16x3072 .f32) (s : St F) :
    have p0 := k0_pay21 s.st (sc C 0 inb_S1x8_S1x1_0_0)
    have p1 := k0_pay22 s.st (sc C 1 inb_S1x8_S1x1_0_1)
    have p2 := k0_pay23 s.st (sc C 2 inb_S1x8_S1x1_0_2)
    have p3 := k0_pay24 s.st (sc C 3 inb_S1x8_S1x1_0_3)
    have p4 := k0_pay25 (sc C 4 inb_S1x8_S1x1_0_4)
    have z := Scalar.ofBits .f32 0x00000000#32
    have a := k0_pay27 s.ht p0 p1 p2 p3 p4 (k0_pay26 s.st) z (sc C 5 inb_S1x8_S1x1_0_5) C.wmt C.bmt
    have u := k0_pay29 s.ht p0 p1 p2 p3 p4 (k0_pay26 s.st) z (sc C 5 inb_S1x8_S1x1_0_5) C.wmt C.bmt C.whh C.bhh gi
    have n := k0_pay30 s.ht p0 p1 p2 p3 p4 (k0_pay26 s.st) z (sc C 5 inb_S1x8_S1x1_0_5) C.wmt C.bmt C.whh C.bhh gi
    (⟨k0_pay32 s.st a u n C.whead (sc C 6 inb_S1x8_S1x1_0_6) C.es (sc C 7 inb_S1x8_S1x1_0_7), k0_pay3 (k0_pay31 a u n)⟩ : St F)
      = step C gi s := rfl

section
variable (𝒱 : Variants) (c : Dev nD) (bd : Option 𝒱.V) (arg0 : Memref sig .tc .smem S1x8 .f32) (harg0 : arg0.IsWhole) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S1024x128 .bf16) (harg8 : arg8.IsWhole) (arg9 : Memref sig .tc .vmem S512x1024 .f32) (harg9 : arg9.IsWhole) (arg10 : Memref sig .tc .vmem S16x2048 .f32) (harg10 : arg10.IsWhole) (arg11 : Memref sig .tc .vmem S512x3072 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S1536x1024 .bf16) (harg14 : arg14.IsWhole)
  (X0 : BufTy.Contents (Elt F) arg0.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X14 : BufTy.Contents (Elt F) arg14.view.ty) (k : Fin k0_t1_loop.trips)
  (f12 : BufTy.Contents (Elt F) arg12.view.ty) (f13 : BufTy.Contents (Elt F) arg13.view.ty)

/-- A trip's two result arrays, read back after its stores. -/
theorem trip_read (C : Consts F) (hC : C = ⟨arg0.view.read (Elt F) X0, arg4.view.read (Elt F) X4, arg5.view.read (Elt F) X5, arg6.view.read (Elt F) X6,
      arg7.view.read (Elt F) X7, arg8.view.read (Elt F) X8, arg11.view.read (Elt F) X11, arg14.view.read (Elt F) X14⟩) :
    (⟨arg12.view.read (Elt F) (arg12.view.writes (Elt F) f12 (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 X0 X4 X5 X6 X7 X8 X11 X14 k f12 f13).1),
      arg13.view.read (Elt F) (arg13.view.writes (Elt F) f13 (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 X0 X4 X5 X6 X7 X8 X11 X14 k f12 f13).2)⟩ : St F)
      = step C (rows2 C k) (step C (rows1 C k) ⟨arg12.view.read (Elt F) f12, arg13.view.read (Elt F) f13⟩) := by
  subst hC
  unfold tripL_k0_t1
  rw [trip_k0_t1]
  dsimp only
  sl_unfold_words
  rw [View.read_writes_full, View.read_writes_full]
  rw [View.readCov_full, View.readCov_full]
  repeat rw [View.readAt_full]
  rw [← second_step]
  dsimp only [step, stNew, htNew, rg, zg, n1, n2, gh, h1, sc, rows1, rows2]
  rfl
end

end Cert.KernelIdeal.Trip
-- ==== Proof.KRun.lean ====
/- The kernel's block, read back as values: sixteen trips of two steps from the zero state, the state stored in the left half
   of the result and zeros in the right half. -/
module

public import proofs.«01_k».proof.Proof.KTrip

@[expose] public section

set_option maxRecDepth 16384

noncomputable section

namespace Cert.KernelIdeal.Trip

open Idealize.ShloMosaic Idealize.ShloMosaic.TcCoe Idealize.ShloMosaic.Tactic
open Idealize.SL Idealize.SL.Sem
open Cert.KernelIdeal Cert.KernelIdeal.Gen

variable {F : FTy → Type} [FloatOps F]

/-- The carried arrays after the first `n` trips, from `s₀`. -/
def iter (C : Consts F) (s₀ : St F) : ℕ → St F
  | 0 => s₀
  | n + 1 => if h : n < k0_t1_loop.trips then step C (rows2 C ⟨n, h⟩) (step C (rows1 C ⟨n, h⟩) (iter C s₀ n)) else iter C s₀ n

section
variable (𝒱 : Variants) (c : Dev nD) (bd : Option 𝒱.V) (arg0 : Memref sig .tc .smem S1x8 .f32) (harg0 : arg0.IsWhole) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S1024x128 .bf16) (harg8 : arg8.IsWhole) (arg9 : Memref sig .tc .vmem S512x1024 .f32) (harg9 : arg9.IsWhole) (arg10 : Memref sig .tc .vmem S16x2048 .f32) (harg10 : arg10.IsWhole) (arg11 : Memref sig .tc .vmem S512x3072 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S1536x1024 .bf16) (harg14 : arg14.IsWhole)
  (X0 : BufTy.Contents (Elt F) arg0.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X14 : BufTy.Contents (Elt F) arg14.view.ty) (G12 : BufTy.Contents (Elt F) arg12.view.ty) (G13 : BufTy.Contents (Elt F) arg13.view.ty)

/-- The two arrays after the pieces of the first `n` trips. -/
theorem trips_read (C : Consts F) (hC : C = ⟨arg0.view.read (Elt F) X0, arg4.view.read (Elt F) X4, arg5.view.read (Elt F) X5, arg6.view.read (Elt F) X6,
      arg7.view.read (Elt F) X7, arg8.view.read (Elt F) X8, arg11.view.read (Elt F) X11, arg14.view.read (Elt F) X14⟩) :
    ∀ n : ℕ, n ≤ k0_t1_loop.trips →
    (⟨arg12.view.read (Elt F) (arg12.view.writes (Elt F) G12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 X0 X4 X5 X6 X7 X8 X11 X14 G12 G13 n).1),
      arg13.view.read (Elt F) (arg13.view.writes (Elt F) G13 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 X0 X4 X5 X6 X7 X8 X11 X14 G12 G13 n).2)⟩ : St F)
      = iter C ⟨arg12.view.read (Elt F) G12, arg13.view.read (Elt F) G13⟩ n
  | 0, _ => rfl
  | n + 1, hn => by
    have ih := trips_read C hC n (by omega)
    rw [iter, dif_pos (show n < k0_t1_loop.trips by omega), ← ih]
    have hs := pb_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 X0 X4 X5 X6 X7 X8 X11 X14 G12 G13 ⟨n, by omega⟩
    dsimp only at hs
    rw [hs]
    dsimp only
    rw [View.writes_append, View.writes_append]
    exact trip_read 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 X0 X4 X5 X6 X7 X8 X11 X14 ⟨n, by omega⟩ _ _ C hC
end

/-- The three stacked pieces of the embedding table. -/
def stack (e : Vec F S512x1024 .f32) : Vec F S1536x1024 .bf16 :=
  View.canon
    [⟨Rect.unit ![1024, 0] S512x1024.size inb_S1536x1024_S512x1024_1024_0, k0_pay36 e (k0_pay33 e) (k0_pay35 e (k0_pay33 e))⟩,
     ⟨Rect.unit ![512, 0] S512x1024.size inb_S1536x1024_S512x1024_512_0, k0_pay35 e (k0_pay33 e)⟩,
     ⟨Rect.unit ![0, 0] S512x1024.size inb_S1536x1024_S512x1024_0_0, k0_pay33 e⟩]

/-- What the loop reads, out of the blocks the launch hands over. -/
def constsOf (x0 : Vec F S1x8 .f32) (x1 : Vec F S512x1024 .f32) (x2 : Vec F S1024x3072 .bf16) (x3 : Vec F S1x3072 .f32) (x4 : Vec F S2048x1024 .bf16) (x5 : Vec F S1x1024 .f32) (x6 : Vec F S1024x3072 .bf16) (x7 : Vec F S1x3072 .f32) (x8 : Vec F S1024x128 .bf16) (x9 : Vec F S512x1024 .f32) : Consts F :=
  ⟨x0, x4, x5, x6, x7, x8, k0_pay37 x1 x2 x3, stack x9⟩

/-- The zero state. -/
def start : St F := ⟨k0_pay1 k0_pay38, k0_pay2⟩

/-- The state after all the trips. -/
def last (x0 : Vec F S1x8 .f32) (x1 : Vec F S512x1024 .f32) (x2 : Vec F S1024x3072 .bf16) (x3 : Vec F S1x3072 .f32) (x4 : Vec F S2048x1024 .bf16) (x5 : Vec F S1x1024 .f32) (x6 : Vec F S1024x3072 .bf16) (x7 : Vec F S1x3072 .f32) (x8 : Vec F S1024x128 .bf16) (x9 : Vec F S512x1024 .f32) : St F := iter (constsOf x0 x1 x2 x3 x4 x5 x6 x7 x8 x9) start k0_t1_loop.trips

/-- The result block: the last state in the left half, the zeros in the right half. -/
def block (s : Vec F S16x1024 .f32) : Vec F S16x2048 .f32 :=
  View.canon
    [⟨Rect.unit ![0, 1024] S16x1024.size inb_S16x2048_S16x1024_0_1024, k0_pay4⟩,
     ⟨Rect.unit ![0, 0] S16x1024.size inb_S16x2048_S16x1024_0_0, s⟩]

theorem out_A (c : Dev nD) (arg0 : Memref sig .tc .smem S1x8 .f32) (harg0 : arg0.IsWhole) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S1024x128 .bf16) (harg8 : arg8.IsWhole) (arg9 : Memref sig .tc .vmem S512x1024 .f32) (harg9 : arg9.IsWhole) (arg10 : Memref sig .tc .vmem S16x2048 .f32) (harg10 : arg10.IsWhole) (arg11 : Memref sig .tc .vmem S512x3072 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S1536x1024 .bf16) (harg14 : arg14.IsWhole) (x0 : Vec F S1x8 .f32) (x1 : Vec F S512x1024 .f32) (x2 : Vec F S1024x3072 .bf16) (x3 : Vec F S1x3072 .f32) (x4 : Vec F S2048x1024 .bf16) (x5 : Vec F S1x1024 .f32) (x6 : Vec F S1024x3072 .bf16) (x7 : Vec F S1x3072 .f32) (x8 : Vec F S1024x128 .bf16) (x9 : Vec F S512x1024 .f32) :
    out0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = block (last x0 x1 x2 x3 x4 x5 x6 x7 x8 x9).st := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  rw [View.readCov_cons_toLoadRect, View.readCov_cons_toLoadRect]
  repeat rw [View.readAt_full]
  rw [harg1.read_unread, harg2.read_unread, harg3.read_unread, harg9.read_unread]
  unfold View.readCov
  rw [View.readAt_full, View.writes_append]
  have h := congrArg St.st (trips_read (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg4.unread x4) (harg5.unread x5) (harg6.unread x6) (harg7.unread x7) (harg8.unread x8)
    (arg11.view.writes (Elt F) arg11.view.junk [⟨Rect.unit ![0, 0] S512x3072.size inb_S512x3072_S512x3072_0_0, k0_pay37 x1 x2 x3⟩])
    (arg14.view.writes (Elt F) arg14.view.junk
      [⟨Rect.unit ![1024, 0] S512x1024.size inb_S1536x1024_S512x1024_1024_0, k0_pay36 x9 (k0_pay33 x9) (k0_pay35 x9 (k0_pay33 x9))⟩,
       ⟨Rect.unit ![512, 0] S512x1024.size inb_S1536x1024_S512x1024_512_0, k0_pay35 x9 (k0_pay33 x9)⟩,
       ⟨Rect.unit ![0, 0] S512x1024.size inb_S1536x1024_S512x1024_0_0, k0_pay33 x9⟩])
    (arg12.view.writes (Elt F) arg12.view.junk [⟨Rect.unit ![0, 0] ![16, 1024] inb_S16x1024_S16x1024_0_0, k0_pay1 k0_pay38⟩])
    (arg13.view.writes (Elt F) arg13.view.junk [⟨Rect.unit ![0, 0] ![16, 1024] inb_S16x1024_S16x1024_0_0, k0_pay2⟩])
    (constsOf x0 x1 x2 x3 x4 x5 x6 x7 x8 x9) (by
      rw [harg0.read_unread, harg4.read_unread, harg5.read_unread, harg6.read_unread, harg7.read_unread, harg8.read_unread, View.read_writes_full,
        View.read_writes_junk_eq_canon]
      rfl) k0_t1_loop.trips le_rfl)
  dsimp only at h
  rw [View.read_writes_full, View.read_writes_full] at h
  have h' : _ = (last x0 x1 x2 x3 x4 x5 x6 x7 x8 x9).st := h
  rw [← h']
  rfl

end Cert.KernelIdeal.Trip
-- ==== Proof.KFinal.lean ====
/- The launch: what the host lines hand the kernel, as functions of the arguments, and the whole result array at the end. -/
module

public import proofs.«01_k».proof.Proof.KRun
public import proofs.«01_k».proof.Proof.Gen.KernelIdeal.Value

@[expose] public section

set_option maxRecDepth 16384

noncomputable section

namespace Cert.KernelIdeal.Trip

open Idealize.ShloMosaic Idealize.ShloMosaic.TcCoe Idealize.ShloMosaic.Tactic
open Idealize.SL Idealize.SL.Sem
open Cert.KernelIdeal Cert.KernelIdeal.Gen

variable {F : FTy → Type} [FloatOps F]

/-! ## What the host prepares -/

/-- The eight scalars in one row. -/
def scalOf (w : Vec F S1x1x5 .f32) (cb lh lc : Vec F S1 .f32) : Vec F S1x8 .f32 :=
  shapeCast S1x8 (concatenate S8 0 [⟨S5, shapeCast S5 w shapeCasts_S1x1x5_S5⟩, ⟨S1, cb⟩, ⟨S1, lh⟩, ⟨S1, lc⟩] concatenates_S5_S1_S1_S1_S8_d0) shapeCasts_S8_S1x8

/-- The inputs with the step outermost and the batch inside it, one zero column added. -/
def zrowsOf (z : Vec F S16x32x1023 .f32) : Vec F S512x1024 .f32 :=
  pad S512x1024 ![0, 0] ![0, 1] ![0, 0] (shapeCast S512x1023 (transpose S32x16x1023 [1, 0, 2] z transposes_S16x32x1023_S32x16x1023_1_0_2) shapeCasts_S32x16x1023_S512x1023)
    (sitofp .f32 (constantI S_ 32 0#32)) pads_S512x1023_S512x1024_000_010 h_S_

/-- A recurrent weight, transposed. -/
def gruT (x : Vec F S3072x1024 .f32) : Vec F S1024x3072 .bf16 :=
  truncf .bf16 (transpose S1024x3072 [1, 0] x transposes_S3072x1024_S1024x3072_1_0) bitsLt_bf16_f32

/-- A recurrent bias as one row. -/
def gruB (x : Vec F S3072 .f32) : Vec F S1x3072 .f32 := shapeCast S1x3072 x shapeCasts_S3072_S1x3072

/-- The first layer's weight, transposed. -/
def mtT (x : Vec F S1024x2048 .f32) : Vec F S2048x1024 .bf16 :=
  truncf .bf16 (transpose S2048x1024 [1, 0] x transposes_S1024x2048_S2048x1024_1_0) bitsLt_bf16_f32

/-- The first layer's bias as one row. -/
def mtB (x : Vec F S1024 .f32) : Vec F S1x1024 .f32 := shapeCast S1x1024 x shapeCasts_S1024_S1x1024

/-- The two head vectors as the first two columns of a 128-column matrix. -/
def headOf (a : Vec F S1x1024 .f32) (b : Vec F S1x1025 .f32) : Vec F S1024x128 .bf16 :=
  truncf .bf16 (concatenate S1024x128 1 [⟨S1024x1, shapeCast S1024x1 a shapeCasts_S1x1024_S1024x1⟩,
    ⟨S1024x1, shapeCast S1024x1 (extractStridedSlice S1x1024 ![0, 0] b slices_S1x1025_S1x1024_0_0) shapeCasts_S1x1024_S1024x1⟩,
    ⟨S1024x126, broadcastInDim S1024x126 ![] bcast_S_S1024x126 (constant S_ .f32 0x00000000#32)⟩] concatenates_S1024x1_S1024x1_S1024x126_S1024x128_d1) bitsLt_bf16_f32

variable (m : (ℓ : Loc nD τ sig) → Buf (Elt F) ℓ) (ρ : Dev nD → PrngReg)

theorem V_main_v5 (c : Dev nD) : V m c main_v5 = scalOf (m ((c : Thread nD τ).loc main_arg2)) (m ((c : Thread nD τ).loc main_arg3)) (m ((c : Thread nD τ).loc main_arg11)) (m ((c : Thread nD τ).loc main_arg14)) := by
  unfold V
  simp only [hostOps0, hostOps0_1, hostOps0_2, List.flatten_cons, List.flatten_nil, List.append_nil, List.cons_append, List.nil_append]
  after_results_simp
  rfl

theorem V_main_v2 (c : Dev nD) : V m c main_v2 = zrowsOf (m ((c : Thread nD τ).loc main_arg0)) := by
  unfold V
  simp only [hostOps0, hostOps0_1, hostOps0_2, List.flatten_cons, List.flatten_nil, List.append_nil, List.cons_append, List.nil_append]
  after_results_simp
  rfl

theorem V_main_v13 (c : Dev nD) : V m c main_v13 = gruT (m ((c : Thread nD τ).loc main_arg6)) := by
  unfold V
  simp only [hostOps0, hostOps0_1, hostOps0_2, List.flatten_cons, List.flatten_nil, List.append_nil, List.cons_append, List.nil_append]
  after_results_simp
  rfl

theorem V_main_v14 (c : Dev nD) : V m c main_v14 = gruB (m ((c : Thread nD τ).loc main_arg8)) := by
  unfold V
  simp only [hostOps0, hostOps0_1, hostOps0_2, List.flatten_cons, List.flatten_nil, List.append_nil, List.cons_append, List.nil_append]
  after_results_simp
  rfl

theorem V_main_v16 (c : Dev nD) : V m c main_v16 = mtT (m ((c : Thread nD τ).loc main_arg4)) := by
  unfold V
  simp only [hostOps0, hostOps0_1, hostOps0_2, List.flatten_cons, List.flatten_nil, List.append_nil, List.cons_append, List.nil_append]
  after_results_simp
  rfl

theorem V_main_v17 (c : Dev nD) : V m c main_v17 = mtB (m ((c : Thread nD τ).loc main_arg5)) := by
  unfold V
  simp only [hostOps0, hostOps0_1, hostOps0_2, List.flatten_cons, List.flatten_nil, List.append_nil, List.cons_append, List.nil_append]
  after_results_simp
  rfl

theorem V_main_v19 (c : Dev nD) : V m c main_v19 = gruT (m ((c : Thread nD τ).loc main_arg7)) := by
  unfold V
  simp only [hostOps0, hostOps0_1, hostOps0_2, List.flatten_cons, List.flatten_nil, List.append_nil, List.cons_append, List.nil_append]
  after_results_simp
  rfl

theorem V_main_v20 (c : Dev nD) : V m c main_v20 = gruB (m ((c : Thread nD τ).loc main_arg9)) := by
  unfold V
  simp only [hostOps0, hostOps0_1, hostOps0_2, List.flatten_cons, List.flatten_nil, List.append_nil, List.cons_append, List.nil_append]
  after_results_simp
  rfl

theorem V_main_v11 (c : Dev nD) : V m c main_v11 = headOf (m ((c : Thread nD τ).loc main_arg10)) (m ((c : Thread nD τ).loc main_arg13)) := by
  unfold V
  simp only [hostOps0, hostOps0_1, hostOps0_2, List.flatten_cons, List.flatten_nil, List.append_nil, List.cons_append, List.nil_append]
  after_results_simp
  rfl

theorem block_0 (c : Dev nD) : iblk m c 0 t0_0 = scalOf (m ((c : Thread nD τ).loc main_arg2)) (m ((c : Thread nD τ).loc main_arg3)) (m ((c : Thread nD τ).loc main_arg11)) (m ((c : Thread nD τ).loc main_arg14)) := by
  rw [← V_main_v5 m c]
  have hz' : (fun a => win0_0.index t0_0 a * main_v5.ty.shape.size a) = fun _ => 0 := funext fun a => by fin_cases a <;> decide
  exact Memref.read_access_unit_zero (Elt F) main_v5 hz' (fun a => by rw [congrFun hz' a]; simp) (V m c main_v5)

theorem block_1 (c : Dev nD) : iblk m c 1 t0_0 = zrowsOf (m ((c : Thread nD τ).loc main_arg0)) := by
  rw [← V_main_v2 m c]
  have hz' : (fun a => win0_1.index t0_0 a * main_v2.ty.shape.size a) = fun _ => 0 := funext fun a => by fin_cases a <;> decide
  exact Memref.read_access_unit_zero (Elt F) main_v2 hz' (fun a => by rw [congrFun hz' a]; simp) (V m c main_v2)

theorem block_2 (c : Dev nD) : iblk m c 2 t0_0 = gruT (m ((c : Thread nD τ).loc main_arg6)) := by
  rw [← V_main_v13 m c]
  have hz' : (fun a => win0_2.index t0_0 a * main_v13.ty.shape.size a) = fun _ => 0 := funext fun a => by fin_cases a <;> decide
  exact Memref.read_access_unit_zero (Elt F) main_v13 hz' (fun a => by rw [congrFun hz' a]; simp) (V m c main_v13)

theorem block_3 (c : Dev nD) : iblk m c 3 t0_0 = gruB (m ((c : Thread nD τ).loc main_arg8)) := by
  rw [← V_main_v14 m c]
  have hz' : (fun a => win0_3.index t0_0 a * main_v14.ty.shape.size a) = fun _ => 0 := funext fun a => by fin_cases a <;> decide
  exact Memref.read_access_unit_zero (Elt F) main_v14 hz' (fun a => by rw [congrFun hz' a]; simp) (V m c main_v14)

theorem block_4 (c : Dev nD) : iblk m c 4 t0_0 = mtT (m ((c : Thread nD τ).loc main_arg4)) := by
  rw [← V_main_v16 m c]
  have hz' : (fun a => win0_4.index t0_0 a * main_v16.ty.shape.size a) = fun _ => 0 := funext fun a => by fin_cases a <;> decide
  exact Memref.read_access_unit_zero (Elt F) main_v16 hz' (fun a => by rw [congrFun hz' a]; simp) (V m c main_v16)

theorem block_5 (c : Dev nD) : iblk m c 5 t0_0 = mtB (m ((c : Thread nD τ).loc main_arg5)) := by
  rw [← V_main_v17 m c]
  have hz' : (fun a => win0_5.index t0_0 a * main_v17.ty.shape.size a) = fun _ => 0 := funext fun a => by fin_cases a <;> decide
  exact Memref.read_access_unit_zero (Elt F) main_v17 hz' (fun a => by rw [congrFun hz' a]; simp) (V m c main_v17)

theorem block_6 (c : Dev nD) : iblk m c 6 t0_0 = gruT (m ((c : Thread nD τ).loc main_arg7)) := by
  rw [← V_main_v19 m c]
  have hz' : (fun a => win0_6.index t0_0 a * main_v19.ty.shape.size a) = fun _ => 0 := funext fun a => by fin_cases a <;> decide
  exact Memref.read_access_unit_zero (Elt F) main_v19 hz' (fun a => by rw [congrFun hz' a]; simp) (V m c main_v19)

theorem block_7 (c : Dev nD) : iblk m c 7 t0_0 = gruB (m ((c : Thread nD τ).loc main_arg9)) := by
  rw [← V_main_v20 m c]
  have hz' : (fun a => win0_7.index t0_0 a * main_v20.ty.shape.size a) = fun _ => 0 := funext fun a => by fin_cases a <;> decide
  exact Memref.read_access_unit_zero (Elt F) main_v20 hz' (fun a => by rw [congrFun hz' a]; simp) (V m c main_v20)

theorem block_8 (c : Dev nD) : iblk m c 8 t0_0 = headOf (m ((c : Thread nD τ).loc main_arg10)) (m ((c : Thread nD τ).loc main_arg13)) := by
  rw [← V_main_v11 m c]
  have hz' : (fun a => win0_8.index t0_0 a * main_v11.ty.shape.size a) = fun _ => 0 := funext fun a => by fin_cases a <;> decide
  exact Memref.read_access_unit_zero (Elt F) main_v11 hz' (fun a => by rw [congrFun hz' a]; simp) (V m c main_v11)

theorem block_9 (c : Dev nD) : iblk m c 9 t0_0 = m ((c : Thread nD τ).loc main_arg12) := by
  rw [← V_main_arg12 m c]
  have hz' : (fun a => win0_9.index t0_0 a * main_arg12.ty.shape.size a) = fun _ => 0 := funext fun a => by fin_cases a <;> decide
  exact Memref.read_access_unit_zero (Elt F) main_arg12 hz' (fun a => by rw [congrFun hz' a]; simp) (V m c main_arg12)

/-! ## The result array -/

/-- The last state, as a function of the arguments. -/
def lastOf (c : Dev nD) : St F :=
  last (scalOf (m ((c : Thread nD τ).loc main_arg2)) (m ((c : Thread nD τ).loc main_arg3)) (m ((c : Thread nD τ).loc main_arg11)) (m ((c : Thread nD τ).loc main_arg14))) (zrowsOf (m ((c : Thread nD τ).loc main_arg0))) (gruT (m ((c : Thread nD τ).loc main_arg6))) (gruB (m ((c : Thread nD τ).loc main_arg8))) (mtT (m ((c : Thread nD τ).loc main_arg4))) (mtB (m ((c : Thread nD τ).loc main_arg5))) (gruT (m ((c : Thread nD τ).loc main_arg7))) (gruB (m ((c : Thread nD τ).loc main_arg9))) (headOf (m ((c : Thread nD τ).loc main_arg10)) (m ((c : Thread nD τ).loc main_arg13))) (m ((c : Thread nD τ).loc main_arg12))

/-- The result array at the end. -/
abbrev result (c : Dev nD) : Buf (Elt F) ((c : Thread nD τ).loc main_v21) := block (lastOf m c).st

theorem flushed_eq (c : Dev nD) (t : Fin cfg0.N) (hf : (cfg0.win 10).flush t = true) :
    (dats m 0 c).flushed 10 t = ((cfg0.win 10).blk t).view.read (Elt F) (result m c) := by
  obtain rfl : t = t0_0 := fin_N0 t
  rw [Value.flushed10_A, out_A, block_0, block_1, block_2, block_3, block_4, block_5, block_6, block_7, block_8, block_9]
  have hz' : (fun a => win0_10.index t0_0 a * main_v21.ty.shape.size a) = fun _ => 0 := funext fun a => by fin_cases a <;> decide
  exact (Memref.read_access_unit_zero (Elt F) main_v21 hz' (fun a => by rw [congrFun hz' a]; simp) (result m c)).symm

theorem final_o (c : Dev nD) : (dats m 0 c).arrAt 10 cfg0.N = result m c :=
  (dats m 0 c).arrAt_eq_of_cover 10 (result m c) (flushed_eq m c) fun i => ⟨t0_0, flush0_10 t0_0, by
    show i ∈ ((View.whole main_v21).slice (win0_10.rect t0_0)).set
    rw [View.set_slice_whole, Rect.mem_set_unit]
    intro a
    match a with
    | ⟨0, _⟩ =>
      show win0_10.index t0_0 0 * win0_10.size 0 ≤ (i 0).val ∧ (i 0).val < win0_10.index t0_0 0 * win0_10.size 0 + win0_10.xsize (grid0.coords t0_0) 0
      rw [show win0_10.index t0_0 0 * win0_10.size 0 = 0 from by decide +kernel, show win0_10.xsize (grid0.coords t0_0) 0 = 16 from by decide +kernel]
      have : (i 0).val < 16 := (i 0).isLt
      omega
    | ⟨1, _⟩ =>
      show win0_10.index t0_0 1 * win0_10.size 1 ≤ (i 1).val ∧ (i 1).val < win0_10.index t0_0 1 * win0_10.size 1 + win0_10.xsize (grid0.coords t0_0) 1
      rw [show win0_10.index t0_0 1 * win0_10.size 1 = 0 from by decide +kernel, show win0_10.xsize (grid0.coords t0_0) 1 = 2048 from by decide +kernel]
      have : (i 1).val < 2048 := (i 1).isLt
      omega⟩

end Cert.KernelIdeal.Trip

end
-- ==== Proof.AlgConv.lean ====
/- The arguments, as the kernel and the reference read them, and the first part of one step: the convolution of the state and
   the layer behind it, the same in both. -/
module

public import proofs.«01_k».proof.Proof.KFinal
public import proofs.«01_k».proof.Proof.Gen.ReferenceIdeal.Step
public import Idealize.ShloMosaic.Lib.Pointwise

@[expose] public section

set_option maxRecDepth 16384

noncomputable section

namespace Cert.Alg

open Idealize.ShloMosaic Idealize.ShloMosaic.TcCoe
open Cert.KernelIdeal Cert.KernelIdeal.Gen Cert.KernelIdeal.Trip

/-- The fifteen arguments. -/
structure Args where
  z : Vec Ideal S16x32x1023 .f32
  alpha : Vec Ideal ⟨2, ![16, 32]⟩ .i32
  w : Vec Ideal S1x1x5 .f32
  cb : Vec Ideal S1 .f32
  mw : Vec Ideal S1024x2048 .f32
  mb : Vec Ideal S1024 .f32
  wi : Vec Ideal S3072x1024 .f32
  wh : Vec Ideal S3072x1024 .f32
  bi : Vec Ideal S3072 .f32
  bh : Vec Ideal S3072 .f32
  lh : Vec Ideal S1x1024 .f32
  lhb : Vec Ideal S1 .f32
  emb : Vec Ideal S512x1024 .f32
  lc : Vec Ideal S1x1025 .f32
  lcb : Vec Ideal S1 .f32

/-- What the kernel's loop reads, of the arguments. -/
def kc (A : Args) : Consts Ideal :=
  constsOf (scalOf A.w A.cb A.lhb A.lcb) (zrowsOf A.z) (gruT A.wi) (gruB A.bi) (mtT A.mw) (mtB A.mb) (gruT A.wh) (gruB A.bh) (headOf A.lh A.lc) A.emb

/-- The reference's state, of the arguments and its three carried arrays. -/
def rs (A : Args) (st ht : Vec Ideal S16x1024 .f32) (ss : Vec Ideal S16x2048 .f32) : ReferenceIdeal.Step.State Ideal :=
  { ReferenceIdeal.Step.init A.z A.alpha A.cb A.mw A.mb A.wi A.bi A.wh A.bh A.lh A.lhb A.emb A.lc A.lcb A.w with
    main_v8_20 := st, main_v8_21 := ht, main_v8_22 := ss }

variable (A : Args) (s : St Ideal) (ss : Vec Ideal S16x2048 .f32) (n : ℕ)

/-! ## The eight scalars -/

theorem sc0 : sc (kc A) 0 inb_S1x8_S1x1_0_0 = A.w (ix3 0 0 0) := by
  unfold sc kc constsOf
  pointwise [scalOf]

theorem sitofp_zero : FloatOps.sitofp (F := Ideal) FTy.f32 (0#32) = (0 : EReal) := by
  show (((0#32 : BitVec 32).toInt : ℝ) : EReal) = 0
  simp

/-- The convolved state. -/
def conv (C : Consts Ideal) (s : St Ideal) : Vec Ideal S16x1024 .f32 :=
  addf (addf (addf (addf (k0_pay6 s.st (sc C 0 inb_S1x8_S1x1_0_0)) (k0_pay7 s.st (sc C 1 inb_S1x8_S1x1_0_1)))
      (addf (k0_pay8 s.st (sc C 2 inb_S1x8_S1x1_0_2)) (k0_pay9 s.st (sc C 3 inb_S1x8_S1x1_0_3))))
    (mulf (broadcast S16x1024 (k0_pay10 (sc C 4 inb_S1x8_S1x1_0_4)))
      (concatenate S16x1024 1 [⟨S16x1022, extractStridedSlice S16x1022 ![0, 2] (k0_pay5 s.st) slices_S16x1024_o0_2_S16x1022⟩,
        ⟨S16x2, broadcast S16x2 (Scalar.ofBits .f32 0x00000000#32)⟩] concatenates_S16x1022_S16x2_S16x1024_d1)))
    (broadcast S16x1024 (sc C 5 inb_S1x8_S1x1_0_5))

open Cert.ReferenceIdeal.Step in
/-- Both convolve the state alike: the kernel adds the five products in another order. -/
theorem conv_eq : conv (kc A) s = b64 n (rs A s.st s.ht ss) := by
  funext j
  idx_vars j
  unfold conv k0_pay6 k0_pay7 k0_pay8 k0_pay9 k0_pay10 k0_pay5 sc kc constsOf
  pointwise [scalOf, b31, b30, b32, b33, b34, b35, b36, b37, b38, b39, b40, b41, b42, b43, b44, b45, b46, b47, b48, b49, b50, b51, b52, b53, b54, b55, b56, b57, b58, b59, b60, b61, b62, b63, b64, rs, init, A_main_v5]
  rw [sitofp_zero]
  have e0 : (if h : (j1 : ℕ) < 2 then (0 : EReal) else s.st (ix2 j0 ⟨↑j1 - 2, by omega⟩))
      = if h : 2 ≤ (j1 : ℕ) ∧ (j1 : ℕ) - 2 < 1024 then s.st (ix2 j0 ⟨↑j1 - 2, h.2⟩) else 0 := by
    by_cases h : (j1 : ℕ) < 2
    · rw [dif_pos h, dif_neg (by omega)]
    · rw [dif_neg h, dif_pos (by omega)]
  have e1 : (if h : (j1 : ℕ) < 1 then (0 : EReal) else s.st (ix2 j0 ⟨↑j1 - 1, by omega⟩))
      = if h : 2 ≤ 1 + (j1 : ℕ) ∧ 1 + (j1 : ℕ) - 2 < 1024 then s.st (ix2 j0 ⟨1 + ↑j1 - 2, h.2⟩) else 0 := by
    by_cases h : (j1 : ℕ) < 1
    · rw [dif_pos h, dif_neg (by omega)]
    · rw [dif_neg h, dif_pos (by omega)]
      congr 2
      exact Fin.ext (show (j1 : ℕ) - 1 = 1 + ↑j1 - 2 by omega)
  have e3 : (if h : (j1 : ℕ) < 1023 then s.st (ix2 j0 ⟨1 + ↑j1, by omega⟩) else (0 : EReal))
      = if h : 2 ≤ 3 + (j1 : ℕ) ∧ 3 + (j1 : ℕ) - 2 < 1024 then s.st (ix2 j0 ⟨3 + ↑j1 - 2, h.2⟩) else 0 := by
    by_cases h : (j1 : ℕ) < 1023
    · rw [dif_pos h, dif_pos (by omega)]
      congr 2
      exact Fin.ext (show 1 + (j1 : ℕ) = 3 + ↑j1 - 2 by omega)
    · rw [dif_neg h, dif_neg (by omega)]
  have e4 : (if h : (j1 : ℕ) < 1022 then s.st (ix2 j0 ⟨2 + ↑j1, by omega⟩) else (0 : EReal))
      = if h : 2 ≤ 4 + (j1 : ℕ) ∧ 4 + (j1 : ℕ) - 2 < 1024 then s.st (ix2 j0 ⟨4 + ↑j1 - 2, h.2⟩) else 0 := by
    by_cases h : (j1 : ℕ) < 1022
    · rw [dif_pos h, dif_pos (by omega)]
      congr 2
      exact Fin.ext (show 2 + (j1 : ℕ) = 4 + ↑j1 - 2 by omega)
    · rw [dif_neg h, dif_neg (by omega)]
  rw [e0, e1, e3, e4, ← add_assoc]

/-- The layer behind the convolution, of a convolved state and a hidden vector. -/
theorem h1_of_conv (C : Consts Ideal) : h1 C s =
    addf (F := Ideal) (φ := .f32) (matmul (F := Ideal) (φ₁ := .bf16) (φ₂ := .bf16) dot_S16x2048_S2048x1024_S16x1024_1_0_0_1_n_n none
      (truncf .bf16 (maximumf (concatenate S16x2048 1 [⟨S16x1024, conv C s⟩, ⟨S16x1024, s.ht⟩] concatenates_S16x1024_S16x1024_S16x2048_d1)
        (broadcast S16x2048 (Scalar.ofBits .f32 0x00000000#32))) bitsLt_bf16_f32)
      (shapeCast S2048x1024 C.wmt shapeCasts_S2048x1024_S2048x1024) (constant S16x1024 .f32 0x00000000#32))
    (broadcastTo S16x1024 (shapeCast S1x1024 C.bmt shapeCasts_S1x1024_S1x1024) broadcasts_S1x1024_S16x1024) := rfl

open Cert.ReferenceIdeal.Step in
/-- So the layer's outputs agree. -/
theorem h1_eq : h1 (kc A) s = b73 n (rs A s.st s.ht ss) := by
  rw [h1_of_conv, conv_eq A s ss n]
  funext j
  idx_vars j
  unfold kc constsOf
  pointwise [mtT, mtB, b65, b66, b67, b68, b69, b70, b71, b72, b73]
  pointwise [rs, init]

open Cert.ReferenceIdeal.Step in
/-- The hidden projection agrees. -/
theorem gh_eq : gh (kc A) s = b84 n (rs A s.st s.ht ss) := by
  have h : gh (kc A) s = addf (F := Ideal) (φ := .f32) (matmul dot_S16x1024_S1024x3072_S16x3072_1_0_0_1_n_n none (truncf .bf16 (h1 (kc A) s) bitsLt_bf16_f32)
      (shapeCast S1024x3072 (kc A).whh shapeCasts_S1024x3072_S1024x3072) (constant S16x3072 .f32 0x00000000#32))
    (broadcastTo S16x3072 (shapeCast S1x3072 (kc A).bhh shapeCasts_S1x3072_S1x3072) broadcasts_S1x3072_S16x3072) := rfl
  rw [h, h1_eq A s ss n]
  funext j
  idx_vars j
  unfold kc constsOf
  pointwise [gruT, gruB, b80, b81, b82, b83, b84]
  pointwise [rs, init]

end Cert.Alg

end
-- ==== Proof.AlgInput.lean ====
/- The input projection: the sixteen rows the kernel reads for a step are the reference's projection of that step. -/
module

public import proofs.«01_k».proof.Proof.AlgConv

@[expose] public section

set_option maxRecDepth 16384

noncomputable section

namespace Cert.Alg

open Idealize.ShloMosaic Idealize.ShloMosaic.TcCoe
open Cert.KernelIdeal Cert.KernelIdeal.Gen Cert.KernelIdeal.Trip

variable (A : Args) (st ht : Vec Ideal S16x1024 .f32) (ss : Vec Ideal S16x2048 .f32) (n : ℕ)

open Cert.ReferenceIdeal.Step in
/-- The index of a step, as the reference computes it from its number. -/
theorem b7_eq (s : State Ideal) (hn : n < 32) (i : S_.Idx) : b7 n s i = BitVec.ofNat 32 n := by
  pointwise [b0, b1, b2, b3, b4, b5, b6, b7]
  interval_cases n <;> rfl

open Cert.ReferenceIdeal.Step in
theorem b11_eq (hn : n < 32) (b : Fin 16) (k : Fin 1023) : b11 n (rs A st ht ss) (ix2 b k) = A.z (ix3 b ⟨n, hn⟩ k) := by
  have hs : (fun k => ((![(b8 n (rs A st ht ss)), (b7 n (rs A st ht ss)), (b9 n (rs A st ht ss))] : Fin 3 → Vec Ideal S_ .i32) k (Shape.Idx.first ReferenceIdeal.Gen.h_S_)).toInt)
      = ![0, (n : ℤ), 0] := by
    funext k
    have h7 : (b7 n (rs A st ht ss) (Shape.Idx.first ReferenceIdeal.Gen.h_S_)).toInt = (n : ℤ) := by
      rw [b7_eq n _ hn]
      interval_cases n <;> rfl
    fin_cases k
    · rfl
    · exact h7
    · rfl
  unfold b11 b10
  rw [hs]
  pointwise [rs, init]
  congr 1
  have h0 : Host.clampedStart ReferenceIdeal.S16x32x1023 ReferenceIdeal.S16x1x1023 rfl ![0, (n : ℤ), 0] 0 = 0 := by
    interval_cases n <;> rfl
  have h1 : Host.clampedStart ReferenceIdeal.S16x32x1023 ReferenceIdeal.S16x1x1023 rfl ![0, (n : ℤ), 0] 1 = n := by
    interval_cases n <;> rfl
  have h2 : Host.clampedStart ReferenceIdeal.S16x32x1023 ReferenceIdeal.S16x1x1023 rfl ![0, (n : ℤ), 0] 2 = 0 := by
    interval_cases n <;> rfl
  congr 1
  · exact Fin.ext (by simp only [h0]; exact Nat.zero_add _)
  · exact Fin.ext h1
  · exact Fin.ext (by simp only [h2]; exact Nat.zero_add _)

open Cert.ReferenceIdeal.Step in
theorem b19_eq (hα : ∀ i, A.alpha i = 0#32) (i : S16x1.Idx) : b19 n (rs A st ht ss) i = 0#32 := by
  idx_vars i
  pointwise [b19, rs, init]
  exact hα _

open Cert.ReferenceIdeal.Step in
theorem b27_eq (hα : ∀ i, A.alpha i = 0#32) (i : S16x1.Idx) : b27 n (rs A st ht ss) i = 0#32 := by
  idx_vars i
  pointwise [b27, rs, init, A_main_v4, A_main_v3, K_main_v2, K_main_c]
  split
  · rfl
  · exact hα _

open Cert.ReferenceIdeal.Step in
theorem b28_eq (hα : ∀ i, A.alpha i = 0#32) (i : S16x1.Idx) : b28 n (rs A st ht ss) i = 0#32 := by
  unfold b28
  show b19 n (rs A st ht ss) i - b27 n (rs A st ht ss) i = 0#32
  rw [b19_eq A st ht ss n hα, b27_eq A st ht ss n hα]
  rfl

open Cert.ReferenceIdeal.Step in
theorem b29_eq (hα : ∀ i, A.alpha i = 0#32) (i : S16x1.Idx) : b29 n (rs A st ht ss) i = (0 : EReal) := by
  unfold b29
  show FloatOps.sitofp (F := Ideal) FTy.f32 (b28 n (rs A st ht ss) i) = (0 : EReal)
  rw [b28_eq A st ht ss n hα, sitofp_zero]

/-- The rows of the padded inputs: step outermost, batch inside it, one zero column at the end. -/
theorem zrows_eq (r : Fin 512) (k : Fin 1024) : zrowsOf A.z (ix2 r k)
    = if h : (k : ℕ) < 1023 then A.z (ix3 ⟨(r : ℕ) % 16, by omega⟩ ⟨(r : ℕ) / 16, by omega⟩ ⟨k, h⟩) else (0 : EReal) := by
  pointwise [zrowsOf]
  rw [sitofp_zero]

open Cert.ReferenceIdeal.Step in
theorem b74_eq (hα : ∀ i, A.alpha i = 0#32) (hn : n < 32) (b : Fin 16) (k : Fin 1024) : b74 n (rs A st ht ss) (ix2 b k)
    = if h : (k : ℕ) < 1023 then A.z (ix3 b ⟨n, hn⟩ ⟨k, h⟩) else (0 : EReal) := by
  pointwise [b74]
  split
  · exact b11_eq A st ht ss n hn _ _
  · exact b29_eq A st ht ss n hα _

open Cert.ReferenceIdeal.Step in
/-- The sixteen rows from row `16 n` on are the reference's input projection of step `n`. -/
theorem gi_eq (hα : ∀ i, A.alpha i = 0#32) (hn : n < 32) (off : Fin 2 → ℕ) (ho : off = ![16 * n, 0])
    (inb : ∀ a, off a + S16x3072.size a ≤ S512x3072.size a) :
    View.ld (kc A).g (Rect.unit off S16x3072.size inb) = b79 n (rs A st ht ss) := by
  subst ho
  funext j
  idx_vars j
  unfold kc constsOf
  pointwise [k0_pay37, gruT, gruB, b75, b76, b77, b78, b79]
  simp only [zrows_eq, b74_eq A st ht ss n hα hn]
  pointwise [rs, init]
  have e0 : ((16 * n + (j0 : ℕ)) % 16) = j0 := by omega
  have e1 : ((16 * n + (j0 : ℕ)) / 16) = n := by omega
  simp only [e0, e1, Fin.eta]

end Cert.Alg

end
-- ==== Proof.AlgGates.lean ====
/- The gates, the new hidden vector and the two heads of a step, the same in both. -/
module

public import proofs.«01_k».proof.Proof.AlgInput

@[expose] public section

set_option maxRecDepth 16384

noncomputable section

namespace Cert.Alg

open Idealize.ShloMosaic Idealize.ShloMosaic.TcCoe
open Cert.KernelIdeal Cert.KernelIdeal.Gen Cert.KernelIdeal.Trip

variable (A : Args) (s : St Ideal) (ss : Vec Ideal S16x2048 .f32) (n : ℕ)

open Cert.ReferenceIdeal.Step in
/-- The new hidden vectors agree. -/
theorem ht_eq : k0_pay17 (h1 (kc A) s) (rg (kc A) (b79 n (rs A s.st s.ht ss)) s) (zg (kc A) (b79 n (rs A s.st s.ht ss)) s) (n1 (b79 n (rs A s.st s.ht ss))) (n2 (kc A) s)
    = b117 n (rs A s.st s.ht ss) := by
  unfold rg zg n1 n2
  rw [gh_eq A s ss n, h1_eq A s ss n]
  funext j
  idx_vars j
  pointwise [k0_pay17, b85, b86, b87, b88, b89, b90, b91, b92, b93, b94, b95, b96, b97, b98, b99, b100, b101, b102, b103, b104, b105, b106, b107, b108, b109, b110, b111, b112, b113, b114, b115, b116, b117]
  rfl

/-! ## The heads -/

/-- The two products of a step with the head columns, of the new hidden vector. -/
def heads (C : Consts Ideal) (h : Vec Ideal S16x1024 .f32) : FVec Ideal S32x128 .f32 :=
  matmul (F := Ideal) (φ₁ := .bf16) (φ₂ := .bf16) dot_S32x1024_S1024x128_S32x128_1_0_0_1_n_n none
    (truncf .bf16 (concatenate S32x1024 0 [⟨S16x1024, h⟩, ⟨S16x1024, maximumf h (broadcast S16x1024 (Scalar.ofBits (F := Ideal) .f32 0x00000000#32))⟩] concatenates_S16x1024_S16x1024_S32x1024_d0 : FVec Ideal S32x1024 .f32) bitsLt_bf16_f32)
    (shapeCast S1024x128 C.whead shapeCasts_S1024x128_S1024x128) (constant S32x128 .f32 0x00000000#32)

/-- The table row of each batch entry. -/
def itOf (C : Consts Ideal) (h : Vec Ideal S16x1024 .f32) : IVec S16x1 32 :=
  fptosi 32 (mulf (broadcast S16x1 (Scalar.ofBits (F := Ideal) .f32 0x43FF8000#32)) (logistic (addf (extractStridedSlice S16x1 ![0, 0] (heads C h) slices_S32x128_o0_0_S16x1 : FVec Ideal S16x1 .f32) (broadcast S16x1 (sc C 6 inb_S1x8_S1x1_0_6)))))

/-- How much of the state each batch entry keeps. -/
def ctOf (C : Consts Ideal) (h : Vec Ideal S16x1024 .f32) : FVec Ideal S16x1 .f32 :=
  logistic (addf (extractStridedSlice S16x1 ![16, 1] (heads C h) slices_S32x128_o16_1_S16x1 : FVec Ideal S16x1 .f32) (broadcast S16x1 (sc C 7 inb_S1x8_S1x1_0_7)))

/-- The one-hot rows of the table rows. -/
def hot (it : IVec S16x1 32) : FVec Ideal S16x512 .bf16 :=
  truncf .bf16 (sitofp (F := Ideal) .f32 (extui 32 (cmpi .eq (broadcastTo S16x512 it broadcasts_S16x1_S16x512) (iota .tc S16x512 32 [1] iota_S16x512_d1_w32)) natLt_1_32)) bitsLt_bf16_f32

/-- The table rows, picked by the product with the stacked pieces. -/
def pick (C : Consts Ideal) (it : IVec S16x1 32) : FVec Ideal S16x1024 .f32 :=
  matmul (F := Ideal) (φ₁ := .bf16) (φ₂ := .bf16) dot_S16x1536_S1536x1024_S16x1024_1_0_0_1_n_n none
    (concatenate S16x1536 1 [⟨S16x512, hot it⟩, ⟨S16x512, hot it⟩, ⟨S16x512, hot it⟩] concatenates_S16x512_S16x512_S16x512_S16x1536_d1) C.es (constant S16x1024 .f32 0x00000000#32)

theorem stNew_of (C : Consts Ideal) (gi : Vec Ideal S16x3072 .f32) (h : Vec Ideal S16x1024 .f32)
    (hh : k0_pay17 (h1 C s) (rg C gi s) (zg C gi s) (n1 gi) (n2 C s) = h) :
    stNew C gi s = addf (mulf (s.st : FVec Ideal S16x1024 .f32) (broadcastTo S16x1024 (ctOf C h) broadcasts_S16x1_S16x1024)) (pick C (itOf C h)) := by
  subst hh
  have h : stNew C gi s = shapeCast S16x1024 (addf (mulf (s.st : FVec Ideal S16x1024 .f32) (broadcastTo S16x1024 (ctOf C (k0_pay17 (h1 C s) (rg C gi s) (zg C gi s) (n1 gi) (n2 C s))) broadcasts_S16x1_S16x1024)) (pick C (itOf C (k0_pay17 (h1 C s) (rg C gi s) (zg C gi s) (n1 gi) (n2 C s))))) shapeCasts_S16x1024_S16x1024 := rfl
  rw [h, shapeCast_self]

variable (st ht : Vec Ideal S16x1024 .f32)

open Cert.ReferenceIdeal.Step in
/-- The table rows agree. -/
theorem it_eq (b : Fin 16) : itOf (kc A) (b117 n (rs A st ht ss)) (ix2 b 0) = b135 n (rs A st ht ss) (ix1 b) := by
  unfold itOf heads sc kc constsOf
  pointwise [scalOf, headOf, b118, b119, b120, b121, b122, b123, b124, b125, b126, b127, b128, b129, b130, b131, b132, b133, b134, b135]
  pointwise [rs, init]
  rfl

open Cert.ReferenceIdeal.Step in
/-- So do the kept shares. -/
theorem ct_eq (hα : ∀ i, A.alpha i = 0#32) (b : Fin 16) : ctOf (kc A) (b117 n (rs A st ht ss)) (ix2 b 0) = b161 n (rs A st ht ss) (ix2 b 0) := by
  unfold ctOf heads sc kc constsOf
  pointwise [scalOf, headOf, b145, b146, b147, b148, b149, b150, b151, b152, b153, b154, b155, b156, b157, b158, b159, b160, b161]
  simp only [b29_eq A st ht ss n hα]
  pointwise [rs, init]
  simp only [max_self, zero_mul, Finset.sum_const_zero, add_zero]
  rfl

end Cert.Alg

end
-- ==== Proof.AlgPick.lean ====
/- The table rows of a step: the kernel's one-hot product with the stacked pieces of the table reads the row the reference gathers. -/
module

public import proofs.«01_k».proof.Proof.AlgGates
public import Idealize.ShloMosaic.Lib.Routing.Ops

@[expose] public section

set_option maxRecDepth 16384

noncomputable section

namespace Cert.Alg

open Idealize.ShloMosaic Idealize.ShloMosaic.TcCoe
open Cert.KernelIdeal Cert.KernelIdeal.Gen Cert.KernelIdeal.Trip

/-! ## The row numbers -/

theorem ofBits_511 : Ideal.ofBits .f32 0x43FF8000#32 = ((511 : ℝ) : EReal) := by
  simp [Ideal.ofBits, Ideal.ieee, -EReal.coe_mul]
  norm_num

/-- A logistic value is a real number from zero to one. -/
theorem logistic_unit (x : EReal) : ∃ r : ℝ, Ideal.logistic x = (r : EReal) ∧ 0 ≤ r ∧ r ≤ 1 := by
  induction x with
  | bot => exact ⟨0, by simp, le_refl _, zero_le_one⟩
  | top => exact ⟨1, by simp, zero_le_one, le_refl _⟩
  | coe r =>
    refine ⟨(1 + Real.exp (-r))⁻¹, by simp, by positivity, ?_⟩
    exact inv_le_one_of_one_le₀ (by linarith [Real.exp_pos (-r)])

/-- So 511 times it, cut to an integer, is a row number of the table. -/
theorem row_range (x : EReal) : ∃ t : Fin 512, Ideal.fptosi 32 (Ideal.ofBits .f32 0x43FF8000#32 * Ideal.logistic x) = BitVec.ofNat 32 t := by
  obtain ⟨r, hr, h0, h1⟩ := logistic_unit x
  rw [hr, ofBits_511, ← EReal.coe_mul]
  have hp : (0 : ℝ) ≤ 511 * r := by positivity
  have hf0 : 0 ≤ ⌊511 * r⌋ := Int.floor_nonneg.2 hp
  have hf1 : ⌊511 * r⌋ ≤ 511 := by
    have h : (⌊511 * r⌋ : ℝ) ≤ 511 * r := Int.floor_le _
    have h' : (⌊511 * r⌋ : ℝ) ≤ (511 : ℤ) := by push_cast; linarith
    exact_mod_cast h'
  refine ⟨⟨⌊511 * r⌋.toNat, by omega⟩, ?_⟩
  unfold Ideal.fptosi
  rw [Ideal.toIntClamped_coe, if_pos hp]
  have e : max (-((2 ^ (32 - 1) : ℕ) : ℤ)) (min (((2 ^ (32 - 1) : ℕ) : ℤ) - 1) ⌊511 * r⌋) = ((⌊511 * r⌋.toNat : ℕ) : ℤ) := by
    norm_num
    omega
  rw [e, BitVec.ofInt_natCast]

variable (A : Args) (s : St Ideal) (st ht : Vec Ideal S16x1024 .f32) (ss : Vec Ideal S16x2048 .f32) (n : ℕ)

theorem it_row (C : Consts Ideal) (h : Vec Ideal S16x1024 .f32) (b : Fin 16) : ∃ t : Fin 512, itOf C h (ix2 b 0) = BitVec.ofNat 32 t :=
  row_range _

/-! ## The stacked pieces -/

theorem stack_lo (e : Vec Ideal S512x1024 .f32) (r : Fin 512) (c : Fin 1024) :
    stack e (ix2 ⟨1024 + r, by omega⟩ c) = (e (ix2 r c) - e (ix2 r c) : EReal) - (e (ix2 r c) - e (ix2 r c)) := by
  have h : (ix2 ⟨1024 + r, by omega⟩ c : S1536x1024.Idx) = (Rect.unit (s := S1536x1024) ![1024, 0] S512x1024.size inb_S1536x1024_S512x1024_1024_0).emb (ix2 r c) := by
    funext a
    match a with
    | ⟨0, _⟩ => exact Fin.ext (by show 1024 + r.val = 1024 + 1 * r.val; omega)
    | ⟨1, _⟩ => exact Fin.ext (by show c.val = 0 + 1 * c.val; omega)
  unfold stack
  rw [h, View.canon_cons_emb]
  pointwise [k0_pay36, k0_pay35, k0_pay34, k0_pay33]

theorem stack_mid (e : Vec Ideal S512x1024 .f32) (r : Fin 512) (c : Fin 1024) :
    stack e (ix2 ⟨512 + r, by omega⟩ c) = (e (ix2 r c) - e (ix2 r c) : EReal) := by
  have h : (ix2 ⟨512 + r, by omega⟩ c : S1536x1024.Idx) = (Rect.unit (s := S1536x1024) ![512, 0] S512x1024.size inb_S1536x1024_S512x1024_512_0).emb (ix2 r c) := by
    funext a
    match a with
    | ⟨0, _⟩ => exact Fin.ext (by show 512 + r.val = 512 + 1 * r.val; omega)
    | ⟨1, _⟩ => exact Fin.ext (by show c.val = 0 + 1 * c.val; omega)
  unfold stack
  rw [View.canon_cons_of_not_mem _ _ (by
    rw [Rect.mem_set_unit]
    intro hm
    have h0 := (hm 0).1
    have h1 : (1024 : ℕ) ≤ 512 + r.val := h0
    omega), h, View.canon_cons_emb]
  pointwise [k0_pay35, k0_pay34, k0_pay33]

theorem stack_hi (e : Vec Ideal S512x1024 .f32) (r : Fin 512) (c : Fin 1024) : stack e (ix2 ⟨r, by omega⟩ c) = e (ix2 r c) := by
  have h : (ix2 ⟨r, by omega⟩ c : S1536x1024.Idx) = (Rect.unit (s := S1536x1024) ![0, 0] S512x1024.size inb_S1536x1024_S512x1024_0_0).emb (ix2 r c) := by
    funext a
    match a with
    | ⟨0, _⟩ => exact Fin.ext (by show r.val = 0 + 1 * r.val; omega)
    | ⟨1, _⟩ => exact Fin.ext (by show c.val = 0 + 1 * c.val; omega)
  unfold stack
  rw [View.canon_cons_of_not_mem _ _ (by
    rw [Rect.mem_set_unit]
    intro hm
    have h0 := (hm 0).1
    have h1 : (1024 : ℕ) ≤ r.val := h0
    omega), View.canon_cons_of_not_mem _ _ (by
    rw [Rect.mem_set_unit]
    intro hm
    have h0 := (hm 0).1
    have h1 : (512 : ℕ) ≤ r.val := h0
    omega), h, View.canon_cons_emb]
  pointwise [k0_pay33]

/-- Below the upper infinity the three pieces add up to the entry. -/
theorem pieces (x : EReal) (hx : x < ⊤) : x + ((x - x) + ((x - x) - (x - x))) = x := by
  induction x with
  | bot => rfl
  | top => exact absurd hx (lt_irrefl _)
  | coe r =>
    rw [← EReal.coe_sub, sub_self, ← EReal.coe_sub, sub_self]
    simp

/-! ## The product -/

/-- The weight of a row in the one-hot row of row number `t`. -/
theorem hot_weight (t x : ℕ) (ht : t < 512) (hx : x < 512) :
    FloatOps.sitofp (F := Ideal) FTy.f32 (BitVec.setWidth 32 (IntOp.cmpi CmpIPredicate.eq (BitVec.ofNat 32 t) (BitVec.ofNat 32 x)))
      = if t = x then (1 : EReal) else 0 := by
  show (((BitVec.setWidth 32 (IntOp.cmpi CmpIPredicate.eq (BitVec.ofNat 32 t) (BitVec.ofNat 32 x))).toInt : ℝ) : EReal) = _
  by_cases h : t = x
  · subst h
    rw [if_pos rfl]
    simp [IntOp.cmpi]
  · have h' : BitVec.ofNat 32 t ≠ BitVec.ofNat 32 x := fun e => h (by
      have := congrArg BitVec.toNat e
      rw [BitVec.toNat_ofNat, BitVec.toNat_ofNat] at this
      omega)
    rw [if_neg h]
    simp [IntOp.cmpi, beq_false_of_ne h']

theorem hot_sum (t : Fin 512) (f : Fin 512 → EReal) : ∑ x : Fin 512, (if (t : ℕ) = x then (1 : EReal) else 0) * f x = f t := by
  rw [Finset.sum_eq_single t]
  · rw [if_pos rfl, one_mul]
  · intro x _ hx
    rw [if_neg (fun e => hx (Fin.ext e.symm)), zero_mul]
  · intro h
    exact absurd (Finset.mem_univ _) h

theorem sum_three (f : Fin 1536 → EReal) : ∑ x, f x = ∑ r : Fin 512, f ⟨r, by omega⟩
    + (∑ r : Fin 512, f ⟨512 + r, by omega⟩ + ∑ r : Fin 512, f ⟨1024 + r, by omega⟩) := by
  rw [Fin.sum_univ_two_halves (N := 1536) 512 1024 (by norm_num) f,
    Fin.sum_univ_two_halves (N := 1024) 512 512 (by norm_num) (fun k => f ⟨512 + k.val, by omega⟩)]
  congr 2

theorem pick_at (he : ∀ i, A.emb i < (⊤ : EReal)) (it : IVec S16x1 32) (b : Fin 16) (t : Fin 512) (hit : it (ix2 b 0) = BitVec.ofNat 32 t) (c : Fin 1024) :
    pick (kc A) it (ix2 b c) = A.emb (ix2 t c) := by
  have hes : (kc A).es = stack A.emb := by simp only [kc, constsOf]
  pointwise [pick, hot]
  rw [hit, hes, sum_three]
  refine Eq.trans (congrArg₂ (· + ·) (Finset.sum_congr rfl fun r _ => ?_)
    (congrArg₂ (· + ·) (Finset.sum_congr rfl fun r _ => ?_) (Finset.sum_congr rfl fun r _ => ?_)))
    ((congrArg₂ (· + ·) (hot_sum t fun r => A.emb (ix2 r c)) (congrArg₂ (· + ·) (hot_sum t fun r => (A.emb (ix2 r c) - A.emb (ix2 r c) : EReal))
      (hot_sum t fun r => ((A.emb (ix2 r c) - A.emb (ix2 r c) : EReal) - (A.emb (ix2 r c) - A.emb (ix2 r c)))))).trans (pieces _ (he _)))
  · rw [dif_pos r.isLt, hot_weight _ _ t.isLt r.isLt, stack_hi]
  · rw [dif_neg (by show ¬ 512 + r.val < 512; omega), dif_pos (by show 512 + r.val - 512 < 512; omega), stack_mid]
    simp only [Nat.add_sub_cancel_left]
    rw [hot_weight _ _ t.isLt r.isLt]
  · rw [dif_neg (by show ¬ 1024 + r.val < 512; omega), dif_neg (by show ¬ 1024 + r.val - 512 < 512; omega), stack_lo]
    have e : 1024 + r.val - 512 - 512 = r.val := by omega
    simp only [e]
    rw [hot_weight _ _ t.isLt r.isLt]

/-- A word that holds a small natural number is not negative. -/
theorem slt_zero (t : ℕ) (h : t < 2 ^ 31) : IntOp.cmpi CmpIPredicate.slt (BitVec.ofNat 32 t) (0#32) = 0#1 := by
  have e : (BitVec.ofNat 32 t).slt (0#32) = false := by
    have h1 : (BitVec.ofNat 32 t).toInt = t := by
      rw [BitVec.toInt_eq_toNat_of_lt (by rw [BitVec.toNat_ofNat]; omega), BitVec.toNat_ofNat, Nat.mod_eq_of_lt (by omega)]
    unfold BitVec.slt
    rw [h1]
    simp
  show BitVec.ofBool ((BitVec.ofNat 32 t).slt (0#32)) = 0#1
  rw [e]
  rfl

open Cert.ReferenceIdeal.Step in
/-- The reference gathers that row. -/
theorem b144_eq (b : Fin 16) (t : Fin 512) (hit : b135 n (rs A st ht ss) (ix1 b) = BitVec.ofNat 32 t) (c : Fin 1024) :
    b144 n (rs A st ht ss) (ix2 b c) = A.emb (ix2 t c) := by
  refine Idealize.ShloMosaic.Routing.gather_row _ rfl rfl rfl rfl rfl A.emb _ b c t ?_ (by norm_num)
  pointwise [b136, b137, b138, b139, b140, b141, b142, b143]
  rw [hit, slt_zero _ (by omega)]
  rfl

open Cert.ReferenceIdeal.Step in
/-- So the kernel's product reads what the reference gathers. -/
theorem pick_eq (he : ∀ i, A.emb i < (⊤ : EReal)) : pick (kc A) (itOf (kc A) (b117 n (rs A st ht ss))) = b144 n (rs A st ht ss) := by
  funext j
  idx_vars j
  obtain ⟨t, hit⟩ := it_row (kc A) (b117 n (rs A st ht ss)) j0
  rw [pick_at A he _ j0 t hit, b144_eq A st ht ss n j0 t ((it_eq A ss n st ht j0).symm.trans hit)]

end Cert.Alg

end
-- ==== Proof.AlgShift.lean ====
/- The reference's shifts: with every shift zero, both gathers along a row read each entry in its own place. -/
module

public import proofs.«01_k».proof.Proof.AlgPick

@[expose] public section

set_option maxRecDepth 16384

noncomputable section

namespace Cert.Alg

open Idealize.ShloMosaic Idealize.ShloMosaic.TcCoe
open Cert.KernelIdeal Cert.KernelIdeal.Gen Cert.KernelIdeal.Trip

/-- An entry `(b, p)` of a gather along the rows of a two-axis array, one position for each result entry: where the position
    holds `k` below the row's length, it is the array's entry `(b, k)`. -/
theorem gather_along {α : Type} {B N M : ℕ} (d : GatherDims ⟨2, ![B, N]⟩ ⟨3, ![B, M, 1]⟩ ⟨2, ![B, M]⟩) (hoff : d.offsetDims = [])
    (hcoll : d.collapsedSliceDims = [1]) (hob : d.operandBatchingDims = [0]) (hsb : d.startIndicesBatchingDims = [0])
    (hsim : d.startIndexMap = [1]) (hivd : d.indexVectorDim = 2) (hss : d.sliceSizes = ![1, 1])
    (x : (⟨2, ![B, N]⟩ : Shape).Idx → α) (idx : IVec ⟨3, ![B, M, 1]⟩ 32) (b : Fin B) (p : Fin M) (k : Fin N)
    (hk : (idx (ix3 b p 0)).toInt = k.val) : Host.gather d x idx (ix2 b p) = x (ix2 b k) := by
  obtain ⟨od, cd, obd, sbd, sim, ivd, sz, wf⟩ := d
  subst hoff hcoll hob hsb hsim hivd hss
  unfold Host.gather
  refine congrArg x (funext fun a => Fin.ext ?_)
  match a with
  | ⟨0, _⟩ =>
    show GatherDims.start _ (ix2 b p) idx 0 + GatherDims.batchCoord _ (ix2 b p) 0 + GatherDims.offCoord _ (ix2 b p) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show GatherDims.start _ (ix2 b p) idx 1 + GatherDims.batchCoord _ (ix2 b p) 1 + GatherDims.offCoord _ (ix2 b p) 1 = k.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hN : k.val < N := k.isLt
    have hsi : GatherDims.siIdx (⟨[], [1], [0], [0], [1], 2, ![1, 1], wf⟩ : GatherDims ⟨2, ![B, N]⟩ ⟨3, ![B, M, 1]⟩ ⟨2, ![B, M]⟩) (ix2 b p)
        ⟨List.idxOf (1 : Fin 2) [1], List.idxOf_lt_length_iff.2 (List.mem_singleton.mpr rfl)⟩ = ix3 b p 0 := by
      funext c
      refine Fin.ext ?_
      match c with
      | ⟨0, _⟩ => rfl
      | ⟨1, _⟩ => rfl
      | ⟨2, _⟩ => rfl
    have e : ∀ i, i = ix3 b p 0 → min (idx i).toInt.toNat (N - 1) = k.val := by
      intro i hi
      rw [hi, hk]
      omega
    exact e _ hsi

/-! ## Words that hold small natural numbers -/

theorem toInt_small (p : ℕ) (h : p < 2 ^ 31) : (BitVec.ofNat 32 p).toInt = p := by
  rw [BitVec.toInt_eq_toNat_of_lt (by rw [BitVec.toNat_ofNat]; omega), BitVec.toNat_ofNat, Nat.mod_eq_of_lt (by omega)]

theorem slt_small (p q : ℕ) (hp : p < 2 ^ 31) (hq : q < 2 ^ 31) : (BitVec.ofNat 32 p).slt (BitVec.ofNat 32 q) = decide (p < q) := by
  unfold BitVec.slt
  rw [toInt_small p hp, toInt_small q hq]
  simp

theorem sle_small (p q : ℕ) (hp : p < 2 ^ 31) (hq : q < 2 ^ 31) : (BitVec.ofNat 32 p).sle (BitVec.ofNat 32 q) = decide (p ≤ q) := by
  unfold BitVec.sle
  rw [toInt_small p hp, toInt_small q hq]
  simp

theorem less_small (p q : ℕ) (hp : p < 2 ^ 31) (hq : q < 2 ^ 31) :
    IntOp.cmpi CmpIPredicate.slt (BitVec.ofNat 32 p) (BitVec.ofNat 32 q) = BitVec.ofBool (decide (p < q)) :=
  congrArg BitVec.ofBool (slt_small p q hp hq)

theorem le_small (p q : ℕ) (hp : p < 2 ^ 31) (hq : q < 2 ^ 31) :
    IntOp.cmpi CmpIPredicate.sle (BitVec.ofNat 32 p) (BitVec.ofNat 32 q) = BitVec.ofBool (decide (p ≤ q)) :=
  congrArg BitVec.ofBool (sle_small p q hp hq)

theorem ge_small (p q : ℕ) (hp : p < 2 ^ 31) (hq : q < 2 ^ 31) :
    IntOp.cmpi CmpIPredicate.sge (BitVec.ofNat 32 p) (BitVec.ofNat 32 q) = BitVec.ofBool (decide (q ≤ p)) :=
  congrArg BitVec.ofBool (sle_small q p hq hp)

/-- Cutting a small natural number to the positions of a row. -/
theorem clip_small (p : ℕ) (hp : p < 2 ^ 31) :
    IntOp.minsi (1023#32) (IntOp.maxsi (0#32) (BitVec.ofNat 32 p)) = BitVec.ofNat 32 (min p 1023) := by
  have h0 : IntOp.maxsi (0#32) (BitVec.ofNat 32 p) = BitVec.ofNat 32 p := by
    unfold IntOp.maxsi
    have h : (0#32).slt (BitVec.ofNat 32 p) = decide (0 < p) := slt_small 0 p (by norm_num) hp
    have h' : (BitVec.ofNat 32 p).slt (0#32) = decide (p < 0) := slt_small p 0 hp (by norm_num)
    have g : (0#32).sle (BitVec.ofNat 32 p) = decide (0 ≤ p) := sle_small 0 p (by norm_num) hp
    have g' : (BitVec.ofNat 32 p).sle (0#32) = decide (p ≤ 0) := sle_small p 0 hp (by norm_num)
    rcases Nat.eq_zero_or_pos p with rfl | hp0
    · simp
    · simp [h, h', g, g', hp0]
  rw [h0]
  unfold IntOp.minsi
  have h : (1023#32).slt (BitVec.ofNat 32 p) = decide (1023 < p) := slt_small 1023 p (by norm_num) hp
  have h' : (BitVec.ofNat 32 p).slt (1023#32) = decide (p < 1023) := slt_small p 1023 hp (by norm_num)
  have g : (1023#32).sle (BitVec.ofNat 32 p) = decide (1023 ≤ p) := sle_small 1023 p (by norm_num) hp
  have g' : (BitVec.ofNat 32 p).sle (1023#32) = decide (p ≤ 1023) := sle_small p 1023 hp (by norm_num)
  rcases lt_trichotomy p 1023 with hq | rfl | hq
  · simp [h, h', g, g', hq, hq.le, Nat.not_lt.2 hq.le, Nat.not_le.2 hq]
  · simp
  · simp [h, h', g, g', hq, hq.le, Nat.not_lt.2 hq.le, Nat.not_le.2 hq]

/-- The reference's wrap of a negative position leaves a small natural number. -/
theorem wrap_small (p : ℕ) (hp : p < 2 ^ 31) : Scalar.select (IntOp.cmpi CmpIPredicate.slt (BitVec.ofNat 32 p) 0#32)
    (IntOp.addi (BitVec.ofNat 32 p) 1024#32) (BitVec.ofNat 32 p) = BitVec.ofNat 32 p := by
  rw [slt_zero p hp]
  rfl

variable (A : Args) (st ht : Vec Ideal S16x1024 .f32) (ss : Vec Ideal S16x2048 .f32) (n : ℕ)

/-! ## The state's shift -/

open Cert.ReferenceIdeal.Step in
/-- The positions, before they are cut to the row. -/
theorem b165_eq (hα : ∀ i, A.alpha i = 0#32) (b : Fin 16) (p : Fin 1024) : b165 n (rs A st ht ss) (ix2 b p) = BitVec.ofNat 32 p := by
  pointwise [b162, b163, b164, b165, K_main_v0]
  rw [b28_eq A st ht ss n hα]
  exact BitVec.add_zero _

open Cert.ReferenceIdeal.Step in
/-- The positions of the reference's first gather … -/
theorem b181_eq (hα : ∀ i, A.alpha i = 0#32) (b : Fin 16) (p : Fin 1024) : b181 n (rs A st ht ss) (ix3 b p 0) = BitVec.ofNat 32 p := by
  pointwise [b166, b167, b168, b169, b170, b171, b172, b173, b174, b175, b176, b177, b178, b179, b180, b181]
  rw [b165_eq A st ht ss n hα, clip_small _ (by omega), wrap_small _ (by omega), Nat.min_eq_left (by omega)]

open Cert.ReferenceIdeal.Step in
/-- … which lie in the row … -/
theorem b191_eq (hα : ∀ i, A.alpha i = 0#32) (b : Fin 16) (p : Fin 1024) : b191 n (rs A st ht ss) (ix2 b p) = 1#1 := by
  pointwise [b182, b183, b184, b185, b186, b187, b188, b189, b190, b191]
  rw [Finset.univ_unique, Finset.fold_singleton]
  rw [show (default : Fin 1) = 0 from rfl, b181_eq A st ht ss n hα, ge_small p 0 (by omega) (by norm_num), le_small p 1023 (by omega) (by norm_num),
    decide_eq_true (Nat.zero_le _), decide_eq_true (by omega)]
  rfl

open Cert.ReferenceIdeal.Step in
/-- … so that the gather reads each entry in its own place. -/
theorem b202_eq (hα : ∀ i, A.alpha i = 0#32) (b : Fin 16) (p : Fin 1024) : b202 n (rs A st ht ss) (ix2 b p) = st (ix2 b p) := by
  have hg : b192 n (rs A st ht ss) (ix2 b p) = st (ix2 b p) :=
    gather_along _ rfl rfl rfl rfl rfl rfl rfl st _ b p p (by rw [b181_eq A st ht ss n hα]; exact toInt_small _ (by omega))
  pointwise [b193, b194, b195, b196, b197, b198, b199, b200, b201, b202]
  rw [b165_eq A st ht ss n hα, b191_eq A st ht ss n hα, hg, less_small p 1024 (by omega) (by norm_num), decide_eq_true p.isLt]
  rfl

/-! ## The result of a step -/

open Cert.ReferenceIdeal.Step in
theorem b209_eq (hα : ∀ i, A.alpha i = 0#32) (b : Fin 16) (p : Fin 2048) : b209 n (rs A st ht ss) (ix2 b p) = BitVec.ofNat 32 p := by
  pointwise [b206, b207, b208, b209, K_main_v1]
  rw [b19_eq A st ht ss n hα]
  exact BitVec.sub_zero _

open Cert.ReferenceIdeal.Step in
theorem b225_eq (hα : ∀ i, A.alpha i = 0#32) (b : Fin 16) (p : Fin 2048) :
    b225 n (rs A st ht ss) (ix3 b p 0) = BitVec.ofNat 32 (min (p : ℕ) 1023) := by
  pointwise [b210, b211, b212, b213, b214, b215, b216, b217, b218, b219, b220, b221, b222, b223, b224, b225]
  rw [b209_eq A st ht ss n hα, clip_small _ (by omega), wrap_small _ (by omega)]

open Cert.ReferenceIdeal.Step in
theorem b235_eq (hα : ∀ i, A.alpha i = 0#32) (b : Fin 16) (p : Fin 2048) : b235 n (rs A st ht ss) (ix2 b p) = 1#1 := by
  pointwise [b226, b227, b228, b229, b230, b231, b232, b233, b234, b235]
  rw [Finset.univ_unique, Finset.fold_singleton]
  rw [show (default : Fin 1) = 0 from rfl, b225_eq A st ht ss n hα, ge_small (min (p : ℕ) 1023) 0 (by omega) (by norm_num),
    le_small (min (p : ℕ) 1023) 1023 (by omega) (by norm_num), decide_eq_true (Nat.zero_le _), decide_eq_true (by omega)]
  rfl

open Cert.ReferenceIdeal.Step in
/-- The result after a step: the new state in the left half, zeros in the right half. -/
theorem b255_eq (hα : ∀ i, A.alpha i = 0#32) (b : Fin 16) (p : Fin 2048) : b255 n (rs A st ht ss) (ix2 b p)
    = if h : (p : ℕ) < 1024 then b205 n (rs A st ht ss) (ix2 b ⟨p, h⟩) else (0 : EReal) := by
  have hg : b236 n (rs A st ht ss) (ix2 b p) = b205 n (rs A st ht ss) (ix2 b ⟨min (p : ℕ) 1023, by omega⟩) :=
    gather_along _ rfl rfl rfl rfl rfl rfl rfl (b205 n (rs A st ht ss)) _ b p ⟨min (p : ℕ) 1023, by omega⟩
      (by rw [b225_eq A st ht ss n hα]; exact toInt_small _ (by omega))
  pointwise [b237, b238, b239, b240, b241, b242, b243, b244, b245, b246, b247, b248, b249, b250, b251, b252, b253, b254, b255, K_main_v1]
  rw [b19_eq A st ht ss n hα, b209_eq A st ht ss n hα, b235_eq A st ht ss n hα, hg, slt_zero p (by omega),
    ge_small p 0 (by omega) (by norm_num), less_small p 1024 (by omega) (by norm_num), decide_eq_true (Nat.zero_le _)]
  by_cases h : (p : ℕ) < 1024
  · rw [dif_pos h, decide_eq_true h]
    have e : min (p : ℕ) 1023 = p := by omega
    simp only [e]
    rfl
  · rw [dif_neg h, decide_eq_false h]
    rfl

end Cert.Alg

end
-- ==== Proof.AlgMain.lean ====
/- One step of the kernel is one step of the reference, and so are the thirty-two. -/
module

public import proofs.«01_k».proof.Proof.AlgShift

@[expose] public section

set_option maxRecDepth 16384

noncomputable section

namespace Cert.Alg

open Idealize.ShloMosaic Idealize.ShloMosaic.TcCoe
open Cert.KernelIdeal Cert.KernelIdeal.Gen Cert.KernelIdeal.Trip

/-- The result block at an entry. -/
theorem block_at (x : Vec Ideal S16x1024 .f32) (b : Fin 16) (p : Fin 2048) :
    block x (ix2 b p) = if h : (p : ℕ) < 1024 then x (ix2 b ⟨p, h⟩) else (0 : EReal) := by
  unfold block
  by_cases hp : (p : ℕ) < 1024
  · have h : (ix2 b p : S16x2048.Idx) = (Rect.unit (s := S16x2048) ![0, 0] S16x1024.size inb_S16x2048_S16x1024_0_0).emb (ix2 b ⟨p, hp⟩) := by
      funext a
      match a with
      | ⟨0, _⟩ => exact Fin.ext (by show b.val = 0 + 1 * b.val; omega)
      | ⟨1, _⟩ => exact Fin.ext (by show p.val = 0 + 1 * p.val; omega)
    rw [dif_pos hp, View.canon_cons_of_not_mem _ _ (by
      rw [Rect.mem_set_unit]
      intro hm
      have h0 := (hm 1).1
      have h1 : (1024 : ℕ) ≤ p.val := h0
      omega), h, View.canon_cons_emb]
  · have h : (ix2 b p : S16x2048.Idx) = (Rect.unit (s := S16x2048) ![0, 1024] S16x1024.size inb_S16x2048_S16x1024_0_1024).emb (ix2 b ⟨p - 1024, by omega⟩) := by
      funext a
      match a with
      | ⟨0, _⟩ => exact Fin.ext (by show b.val = 0 + 1 * b.val; omega)
      | ⟨1, _⟩ => exact Fin.ext (by show p.val = 1024 + 1 * (p.val - 1024); omega)
    rw [dif_neg hp, h, View.canon_cons_emb]
    pointwise [k0_pay4]

variable (A : Args) (s : St Ideal) (ss : Vec Ideal S16x2048 .f32) (n : ℕ)

open Cert.ReferenceIdeal.Step in
/-- The new states agree. -/
theorem st_eq (hα : ∀ i, A.alpha i = 0#32) (he : ∀ i, A.emb i < (⊤ : EReal)) :
    stNew (kc A) (b79 n (rs A s.st s.ht ss)) s = b205 n (rs A s.st s.ht ss) := by
  rw [stNew_of s (kc A) _ _ (ht_eq A s ss n), pick_eq A s.st s.ht ss n he]
  funext j
  idx_vars j
  pointwise [b203, b204, b205]
  rw [b202_eq A s.st s.ht ss n hα, ct_eq A ss n s.st s.ht hα]

open Cert.ReferenceIdeal.Step in
theorem htNew_eq : htNew (kc A) (b79 n (rs A s.st s.ht ss)) s = b117 n (rs A s.st s.ht ss) := by
  unfold htNew k0_pay19
  rw [ht_eq A s ss n]
  exact shapeCast_self _ _

/-- ONE STEP of the reference, from a state that holds the kernel's, holds the kernel's next state, and as its result the block
    the kernel would store. -/
theorem step_eq (hα : ∀ i, A.alpha i = 0#32) (he : ∀ i, A.emb i < (⊤ : EReal)) (hn : n < 32) (off : Fin 2 → ℕ) (ho : off = ![16 * n, 0])
    (inb : ∀ a, off a + S16x3072.size a ≤ S512x3072.size a) :
    ReferenceIdeal.Step.step n (rs A s.st s.ht ss)
      = rs A (step (kc A) (View.ld (kc A).g (Rect.unit off S16x3072.size inb)) s).st (step (kc A) (View.ld (kc A).g (Rect.unit off S16x3072.size inb)) s).ht
          (block (step (kc A) (View.ld (kc A).g (Rect.unit off S16x3072.size inb)) s).st) := by
  rw [gi_eq A s.st s.ht ss n hα hn off ho inb]
  unfold Trip.step
  dsimp only
  rw [st_eq A s ss n hα he, htNew_eq A s ss n]
  have hb : ReferenceIdeal.Step.b255 n (rs A s.st s.ht ss) = block (ReferenceIdeal.Step.b205 n (rs A s.st s.ht ss)) := by
    funext j
    idx_vars j
    rw [b255_eq A s.st s.ht ss n hα, block_at]
  rw [← hb]
  rfl

/-- The reference's states. -/
def seq (A : Args) : ℕ → ReferenceIdeal.Step.State Ideal
  | 0 => ReferenceIdeal.Step.init A.z A.alpha A.cb A.mw A.mb A.wi A.bi A.wh A.bh A.lh A.lhb A.emb A.lc A.lcb A.w
  | n + 1 => ReferenceIdeal.Step.step n (seq A n)

theorem trips_eq : k0_t1_loop.trips = 16 := by decide +kernel
theorem off1_eq : ∀ k : Fin k0_t1_loop.trips, k0_off1 k = ![16 * (2 * k.val), 0] := by decide +kernel
theorem off2_eq : ∀ k : Fin k0_t1_loop.trips, k0_off2 k = ![16 * (2 * k.val + 1), 0] := by decide +kernel

theorem start_st : (start : St Ideal).st = ReferenceIdeal.Step.K_main_v6 := by
  funext j
  idx_vars j
  unfold start
  pointwise [k0_pay1, k0_pay38, ReferenceIdeal.Step.K_main_v6, ReferenceIdeal.Step.K_main_cst]

theorem start_ht : (start : St Ideal).ht = ReferenceIdeal.Step.K_main_v6 := by
  funext j
  idx_vars j
  unfold start
  pointwise [k0_pay2, ReferenceIdeal.Step.K_main_v6, ReferenceIdeal.Step.K_main_cst]

theorem seq_zero : seq A 0 = rs A (start : St Ideal).st (start : St Ideal).ht ReferenceIdeal.Step.K_main_v7 := by
  rw [start_st, start_ht]
  rfl

/-- Two reference steps a trip: after `k` trips the reference's state holds the kernel's, and after the first trip its result is
    the block the kernel would store. -/
theorem trips_hold (hα : ∀ i, A.alpha i = 0#32) (he : ∀ i, A.emb i < (⊤ : EReal)) : ∀ k : ℕ, k ≤ 16 →
    ∃ ss, seq A (2 * k) = rs A (iter (kc A) start k).st (iter (kc A) start k).ht ss ∧ (0 < k → ss = block (iter (kc A) start k).st)
  | 0, _ => ⟨_, seq_zero A, fun h => absurd h (lt_irrefl _)⟩
  | k + 1, hk => by
    obtain ⟨ss, hs, _⟩ := trips_hold hα he k (by omega)
    have ht : k < k0_t1_loop.trips := by rw [trips_eq]; omega
    have h1 : seq A (2 * k + 1) = ReferenceIdeal.Step.step (2 * k) (seq A (2 * k)) := rfl
    have h2 : seq A (2 * (k + 1)) = ReferenceIdeal.Step.step (2 * k + 1) (seq A (2 * k + 1)) := rfl
    rw [hs, step_eq A _ ss (2 * k) hα he (by omega) _ (off1_eq ⟨k, ht⟩) (k0_off1_inb ⟨k, ht⟩)] at h1
    rw [h1, step_eq A _ _ (2 * k + 1) hα he (by omega) _ (off2_eq ⟨k, ht⟩) (k0_off2_inb ⟨k, ht⟩)] at h2
    have hi : iter (kc A) start (k + 1) = step (kc A) (rows2 (kc A) ⟨k, ht⟩) (step (kc A) (rows1 (kc A) ⟨k, ht⟩) (iter (kc A) start k)) := by
      rw [iter, dif_pos ht]
    rw [hi]
    exact ⟨_, h2, fun _ => rfl⟩

/-- The reference's result is the block of the kernel's last state. -/
theorem result_eq (hα : ∀ i, A.alpha i = 0#32) (he : ∀ i, A.emb i < (⊤ : EReal)) :
    (seq A 32).main_v8_22 = block (iter (kc A) start k0_t1_loop.trips).st := by
  obtain ⟨ss, hs, hb⟩ := trips_hold A hα he 16 le_rfl
  rw [trips_eq, ← hb (by norm_num)]
  exact congrArg ReferenceIdeal.Step.State.main_v8_22 hs

end Cert.Alg

end
-- ==== Proof.AlgRun.lean ====
/- The algebraic claim: the precondition read off its printed form, and the two runs put side by side. -/
module

public import proofs.«01_k».proof.Defs
public import proofs.«01_k».proof.Proof.AlgMain
public import Idealize.ShloMosaic.Lib.ReduceAll

@[expose] public section

set_option maxRecDepth 16384

noncomputable section

namespace Cert.Pre_alpha_zero_emb_below_inf

open Idealize.ShloMosaic

/-- The side conditions of the printed precondition. -/
theorem facts : Facts where
  bcast_S_S16x32 := by decide +kernel
  reducesTo_S16x32_S_d0_1 := by decide +kernel
  h_S_ := by decide +kernel
  bcast_S_S512x1024 := by decide +kernel
  reducesTo_S512x1024_S_d0_1 := by decide +kernel

instance : Subsingleton S_.Idx := ⟨fun i j => by funext a; exact a.elim0⟩

section
variable [Facts]
open Facts

theorem and_one : ∀ x y : BitVec 1, x &&& y = 1#1 → x = 1#1 ∧ y = 1#1 := by decide

theorem inf_top : Ideal.ofBits .f32 0x7F800000#32 = (⊤ : EReal) := by
  simp [Ideal.ofBits, Ideal.ieee]

/-- Where the precondition is one, every delta index is zero and every table entry is below the upper infinity. -/
theorem read {x0 x1 x2 x3 x4 x5 x6 x7 x8 x9 x10 x11 x12 x13 x14} {j : S_.Idx}
    (h : fn (F := Ideal) x0 x1 x2 x3 x4 x5 x6 x7 x8 x9 x10 x11 x12 x13 x14 j = 1#1) :
    (∀ i, x1 i = 0#32) ∧ ∀ i, (x12 i : EReal) < ⊤ := by
  dsimp only [fn] at h
  obtain ⟨h1, h2⟩ := and_one _ _ h
  refine ⟨fun i => ?_, fun i => ?_⟩
  · have e : BitVec.ofBool (x1 i == 0#32) = 1#1 := Host.reduce_andi_all _ _ _ _ _ h1 i
    by_contra hne
    rw [beq_eq_false_iff_ne.mpr hne] at e
    exact absurd e (by decide)
  · have e : Ideal.cmp .olt (x12 i : EReal) (Ideal.ofBits .f32 0x7F800000#32) = 1#1 := Host.reduce_andi_all _ _ _ _ _ h2 i
    by_contra hne
    rw [inf_top] at e
    simp [Ideal.cmp, hne] at e

end

end Cert.Pre_alpha_zero_emb_below_inf

namespace Cert.Alg

open Idealize.ShloMosaic Idealize.SL.Sem

/-- The argument arrays of the kernel's memory. -/
def argsOf (m : (ℓ : Loc Cert.KernelIdeal.nD Cert.KernelIdeal.τ Cert.KernelIdeal.sig) → Buf (Elt Ideal) ℓ) (c : Dev Cert.KernelIdeal.nD) : Args where
  z := m ((c.tc : Thread Cert.KernelIdeal.nD Cert.KernelIdeal.τ).loc Cert.KernelIdeal.main_arg0)
  alpha := m ((c.tc : Thread Cert.KernelIdeal.nD Cert.KernelIdeal.τ).loc Cert.KernelIdeal.main_arg1)
  w := m ((c.tc : Thread Cert.KernelIdeal.nD Cert.KernelIdeal.τ).loc Cert.KernelIdeal.main_arg2)
  cb := m ((c.tc : Thread Cert.KernelIdeal.nD Cert.KernelIdeal.τ).loc Cert.KernelIdeal.main_arg3)
  mw := m ((c.tc : Thread Cert.KernelIdeal.nD Cert.KernelIdeal.τ).loc Cert.KernelIdeal.main_arg4)
  mb := m ((c.tc : Thread Cert.KernelIdeal.nD Cert.KernelIdeal.τ).loc Cert.KernelIdeal.main_arg5)
  wi := m ((c.tc : Thread Cert.KernelIdeal.nD Cert.KernelIdeal.τ).loc Cert.KernelIdeal.main_arg6)
  wh := m ((c.tc : Thread Cert.KernelIdeal.nD Cert.KernelIdeal.τ).loc Cert.KernelIdeal.main_arg7)
  bi := m ((c.tc : Thread Cert.KernelIdeal.nD Cert.KernelIdeal.τ).loc Cert.KernelIdeal.main_arg8)
  bh := m ((c.tc : Thread Cert.KernelIdeal.nD Cert.KernelIdeal.τ).loc Cert.KernelIdeal.main_arg9)
  lh := m ((c.tc : Thread Cert.KernelIdeal.nD Cert.KernelIdeal.τ).loc Cert.KernelIdeal.main_arg10)
  lhb := m ((c.tc : Thread Cert.KernelIdeal.nD Cert.KernelIdeal.τ).loc Cert.KernelIdeal.main_arg11)
  emb := m ((c.tc : Thread Cert.KernelIdeal.nD Cert.KernelIdeal.τ).loc Cert.KernelIdeal.main_arg12)
  lc := m ((c.tc : Thread Cert.KernelIdeal.nD Cert.KernelIdeal.τ).loc Cert.KernelIdeal.main_arg13)
  lcb := m ((c.tc : Thread Cert.KernelIdeal.nD Cert.KernelIdeal.τ).loc Cert.KernelIdeal.main_arg14)

/-- The kernel's result array, as the block of the last state of its loop. -/
theorem result_iter (m : (ℓ : Loc Cert.KernelIdeal.nD Cert.KernelIdeal.τ Cert.KernelIdeal.sig) → Buf (Elt Ideal) ℓ) (c : Dev Cert.KernelIdeal.nD) :
    Cert.KernelIdeal.Trip.result m c
      = Cert.KernelIdeal.Trip.block (Cert.KernelIdeal.Trip.iter (kc (argsOf m c)) Cert.KernelIdeal.Trip.start Cert.KernelIdeal.k0_t1_loop.trips).st := by
  unfold Cert.KernelIdeal.Trip.result Cert.KernelIdeal.Trip.lastOf Cert.KernelIdeal.Trip.last kc argsOf
  rfl

theorem algebraic : Cert.algebraic_KernelIdeal_ReferenceIdeal_pre_alpha_zero_emb_below_inf (hKernelIdeal := Cert.KernelIdeal.Gen.facts)
    (hReferenceIdeal := Cert.ReferenceIdeal.Gen.facts) (hPre_alpha_zero_emb_below_inf := Cert.Pre_alpha_zero_emb_below_inf.facts) := by
  intro m g m' g' hpre hargs
  refine ⟨fun c => Cert.KernelIdeal.Trip.result m c, ?_, ?_⟩
  · refine (θ_run Cert.KernelIdeal.defs _ _).mono (fun r h c => ?_) (Cert.KernelIdeal.Value.run_blocks m g)
    exact ⟨(h c).1.trans (Cert.KernelIdeal.Trip.final_o m c), (h c).2⟩
  · refine (θ_run Cert.ReferenceIdeal.defs _ _).mono (fun r h c => ?_)
      (Cert.ReferenceIdeal.StepRun.run_iter m' g' (fun c => seq (argsOf m c)) (fun c => ?_) (fun c n => rfl))
    · haveI := Cert.Pre_alpha_zero_emb_below_inf.facts
      have hp := Cert.Pre_alpha_zero_emb_below_inf.read (h := congrFun (hpre c) fun a => a.elim0)
      exact ⟨(h c).1.trans ((result_eq (argsOf m c) hp.1 hp.2).trans (result_iter m c).symm), (h c).2⟩
    · obtain ⟨h0, h1, h2, h3, h4, h5, h6, h7, h8, h9, h10, h11, h12, h13, h14⟩ := hargs c
      show seq (argsOf m c) 0 = Cert.ReferenceIdeal.Step.init (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg2))
      rw [h0, h1, h2, h3, h4, h5, h6, h7, h8, h9, h10, h11, h12, h13, h14]
      rfl

end Cert.Alg

end
-- ==== Proof.lean ====
module

public import proofs.«01_k».proof.Defs
public import proofs.«01_k».proof.Proof.Frames
public import proofs.«01_k».proof.Proof.AlgRun

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_alpha_zero_emb_below_inf.facts,
    frame_kernel, frame_kernelIdeal, fun m ρ _ => frame_kernelIdeal m ρ trivial, frame_referenceIdeal,
    fun m ρ _ => frame_referenceIdeal m ρ trivial, trivial, Cert.Alg.algebraic⟩

end Cert.Proof

end
